-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_table_0123_ReferenceIdeal [hPre_table_0123_ReferenceIdeal : Cert.Pre_table_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0132_ReferenceIdeal [hPre_table_0132_ReferenceIdeal : Cert.Pre_table_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0213_ReferenceIdeal [hPre_table_0213_ReferenceIdeal : Cert.Pre_table_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0231_ReferenceIdeal [hPre_table_0231_ReferenceIdeal : Cert.Pre_table_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0312_ReferenceIdeal [hPre_table_0312_ReferenceIdeal : Cert.Pre_table_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0321_ReferenceIdeal [hPre_table_0321_ReferenceIdeal : Cert.Pre_table_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1023_ReferenceIdeal [hPre_table_1023_ReferenceIdeal : Cert.Pre_table_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1032_ReferenceIdeal [hPre_table_1032_ReferenceIdeal : Cert.Pre_table_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1203_ReferenceIdeal [hPre_table_1203_ReferenceIdeal : Cert.Pre_table_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1230_ReferenceIdeal [hPre_table_1230_ReferenceIdeal : Cert.Pre_table_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1302_ReferenceIdeal [hPre_table_1302_ReferenceIdeal : Cert.Pre_table_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1320_ReferenceIdeal [hPre_table_1320_ReferenceIdeal : Cert.Pre_table_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2013_ReferenceIdeal [hPre_table_2013_ReferenceIdeal : Cert.Pre_table_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2031_ReferenceIdeal [hPre_table_2031_ReferenceIdeal : Cert.Pre_table_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2103_ReferenceIdeal [hPre_table_2103_ReferenceIdeal : Cert.Pre_table_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2130_ReferenceIdeal [hPre_table_2130_ReferenceIdeal : Cert.Pre_table_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2301_ReferenceIdeal [hPre_table_2301_ReferenceIdeal : Cert.Pre_table_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2310_ReferenceIdeal [hPre_table_2310_ReferenceIdeal : Cert.Pre_table_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3012_ReferenceIdeal [hPre_table_3012_ReferenceIdeal : Cert.Pre_table_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3021_ReferenceIdeal [hPre_table_3021_ReferenceIdeal : Cert.Pre_table_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3102_ReferenceIdeal [hPre_table_3102_ReferenceIdeal : Cert.Pre_table_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3120_ReferenceIdeal [hPre_table_3120_ReferenceIdeal : Cert.Pre_table_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3201_ReferenceIdeal [hPre_table_3201_ReferenceIdeal : Cert.Pre_table_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3210_ReferenceIdeal [hPre_table_3210_ReferenceIdeal : Cert.Pre_table_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_table_0123_Kernel : Cert.Pre_table_0123_Kernel.Facts] (m : (ℓ : Loc Cert.Kernel.nD Cert.Kernel.τ Cert.Kernel.sig) → Buf (Elt Bits) ℓ) : Prop :=
  ∀ c : Dev Cert.Kernel.nD,
    (Cert.Pre_table_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0132_Kernel [hPre_table_0132_Kernel : Cert.Pre_table_0132_Kernel.Facts] (m : (ℓ : Loc Cert.Kernel.nD Cert.Kernel.τ Cert.Kernel.sig) → Buf (Elt Bits) ℓ) : Prop :=
  ∀ c : Dev Cert.Kernel.nD,
    (Cert.Pre_table_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0213_Kernel [hPre_table_0213_Kernel : Cert.Pre_table_0213_Kernel.Facts] (m : (ℓ : Loc Cert.Kernel.nD Cert.Kernel.τ Cert.Kernel.sig) → Buf (Elt Bits) ℓ) : Prop :=
  ∀ c : Dev Cert.Kernel.nD,
    (Cert.Pre_table_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0231_Kernel [hPre_table_0231_Kernel : Cert.Pre_table_0231_Kernel.Facts] (m : (ℓ : Loc Cert.Kernel.nD Cert.Kernel.τ Cert.Kernel.sig) → Buf (Elt Bits) ℓ) : Prop :=
  ∀ c : Dev Cert.Kernel.nD,
    (Cert.Pre_table_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0312_Kernel [hPre_table_0312_Kernel : Cert.Pre_table_0312_Kernel.Facts] (m : (ℓ : Loc Cert.Kernel.nD Cert.Kernel.τ Cert.Kernel.sig) → Buf (Elt Bits) ℓ) : Prop :=
  ∀ c : Dev Cert.Kernel.nD,
    (Cert.Pre_table_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0321_Kernel [hPre_table_0321_Kernel : Cert.Pre_table_0321_Kernel.Facts] (m : (ℓ : Loc Cert.Kernel.nD Cert.Kernel.τ Cert.Kernel.sig) → Buf (Elt Bits) ℓ) : Prop :=
  ∀ c : Dev Cert.Kernel.nD,
    (Cert.Pre_table_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1023_Kernel [hPre_table_1023_Kernel : Cert.Pre_table_1023_Kernel.Facts] (m : (ℓ : Loc Cert.Kernel.nD Cert.Kernel.τ Cert.Kernel.sig) → Buf (Elt Bits) ℓ) : Prop :=
  ∀ c : Dev Cert.Kernel.nD,
    (Cert.Pre_table_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1032_Kernel [hPre_table_1032_Kernel : Cert.Pre_table_1032_Kernel.Facts] (m : (ℓ : Loc Cert.Kernel.nD Cert.Kernel.τ Cert.Kernel.sig) → Buf (Elt Bits) ℓ) : Prop :=
  ∀ c : Dev Cert.Kernel.nD,
    (Cert.Pre_table_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1203_Kernel [hPre_table_1203_Kernel : Cert.Pre_table_1203_Kernel.Facts] (m : (ℓ : Loc Cert.Kernel.nD Cert.Kernel.τ Cert.Kernel.sig) → Buf (Elt Bits) ℓ) : Prop :=
  ∀ c : Dev Cert.Kernel.nD,
    (Cert.Pre_table_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1230_Kernel [hPre_table_1230_Kernel : Cert.Pre_table_1230_Kernel.Facts] (m : (ℓ : Loc Cert.Kernel.nD Cert.Kernel.τ Cert.Kernel.sig) → Buf (Elt Bits) ℓ) : Prop :=
  ∀ c : Dev Cert.Kernel.nD,
    (Cert.Pre_table_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1302_Kernel [hPre_table_1302_Kernel : Cert.Pre_table_1302_Kernel.Facts] (m : (ℓ : Loc Cert.Kernel.nD Cert.Kernel.τ Cert.Kernel.sig) → Buf (Elt Bits) ℓ) : Prop :=
  ∀ c : Dev Cert.Kernel.nD,
    (Cert.Pre_table_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1320_Kernel [hPre_table_1320_Kernel : Cert.Pre_table_1320_Kernel.Facts] (m : (ℓ : Loc Cert.Kernel.nD Cert.Kernel.τ Cert.Kernel.sig) → Buf (Elt Bits) ℓ) : Prop :=
  ∀ c : Dev Cert.Kernel.nD,
    (Cert.Pre_table_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2013_Kernel [hPre_table_2013_Kernel : Cert.Pre_table_2013_Kernel.Facts] (m : (ℓ : Loc Cert.Kernel.nD Cert.Kernel.τ Cert.Kernel.sig) → Buf (Elt Bits) ℓ) : Prop :=
  ∀ c : Dev Cert.Kernel.nD,
    (Cert.Pre_table_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2031_Kernel [hPre_table_2031_Kernel : Cert.Pre_table_2031_Kernel.Facts] (m : (ℓ : Loc Cert.Kernel.nD Cert.Kernel.τ Cert.Kernel.sig) → Buf (Elt Bits) ℓ) : Prop :=
  ∀ c : Dev Cert.Kernel.nD,
    (Cert.Pre_table_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2103_Kernel [hPre_table_2103_Kernel : Cert.Pre_table_2103_Kernel.Facts] (m : (ℓ : Loc Cert.Kernel.nD Cert.Kernel.τ Cert.Kernel.sig) → Buf (Elt Bits) ℓ) : Prop :=
  ∀ c : Dev Cert.Kernel.nD,
    (Cert.Pre_table_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2130_Kernel [hPre_table_2130_Kernel : Cert.Pre_table_2130_Kernel.Facts] (m : (ℓ : Loc Cert.Kernel.nD Cert.Kernel.τ Cert.Kernel.sig) → Buf (Elt Bits) ℓ) : Prop :=
  ∀ c : Dev Cert.Kernel.nD,
    (Cert.Pre_table_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2301_Kernel [hPre_table_2301_Kernel : Cert.Pre_table_2301_Kernel.Facts] (m : (ℓ : Loc Cert.Kernel.nD Cert.Kernel.τ Cert.Kernel.sig) → Buf (Elt Bits) ℓ) : Prop :=
  ∀ c : Dev Cert.Kernel.nD,
    (Cert.Pre_table_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2310_Kernel [hPre_table_2310_Kernel : Cert.Pre_table_2310_Kernel.Facts] (m : (ℓ : Loc Cert.Kernel.nD Cert.Kernel.τ Cert.Kernel.sig) → Buf (Elt Bits) ℓ) : Prop :=
  ∀ c : Dev Cert.Kernel.nD,
    (Cert.Pre_table_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3012_Kernel [hPre_table_3012_Kernel : Cert.Pre_table_3012_Kernel.Facts] (m : (ℓ : Loc Cert.Kernel.nD Cert.Kernel.τ Cert.Kernel.sig) → Buf (Elt Bits) ℓ) : Prop :=
  ∀ c : Dev Cert.Kernel.nD,
    (Cert.Pre_table_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3021_Kernel [hPre_table_3021_Kernel : Cert.Pre_table_3021_Kernel.Facts] (m : (ℓ : Loc Cert.Kernel.nD Cert.Kernel.τ Cert.Kernel.sig) → Buf (Elt Bits) ℓ) : Prop :=
  ∀ c : Dev Cert.Kernel.nD,
    (Cert.Pre_table_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3102_Kernel [hPre_table_3102_Kernel : Cert.Pre_table_3102_Kernel.Facts] (m : (ℓ : Loc Cert.Kernel.nD Cert.Kernel.τ Cert.Kernel.sig) → Buf (Elt Bits) ℓ) : Prop :=
  ∀ c : Dev Cert.Kernel.nD,
    (Cert.Pre_table_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3120_Kernel [hPre_table_3120_Kernel : Cert.Pre_table_3120_Kernel.Facts] (m : (ℓ : Loc Cert.Kernel.nD Cert.Kernel.τ Cert.Kernel.sig) → Buf (Elt Bits) ℓ) : Prop :=
  ∀ c : Dev Cert.Kernel.nD,
    (Cert.Pre_table_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3201_Kernel [hPre_table_3201_Kernel : Cert.Pre_table_3201_Kernel.Facts] (m : (ℓ : Loc Cert.Kernel.nD Cert.Kernel.τ Cert.Kernel.sig) → Buf (Elt Bits) ℓ) : Prop :=
  ∀ c : Dev Cert.Kernel.nD,
    (Cert.Pre_table_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3210_Kernel [hPre_table_3210_Kernel : Cert.Pre_table_3210_Kernel.Facts] (m : (ℓ : Loc Cert.Kernel.nD Cert.Kernel.τ Cert.Kernel.sig) → Buf (Elt Bits) ℓ) : Prop :=
  ∀ c : Dev Cert.Kernel.nD,
    (Cert.Pre_table_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_table_0123_Kernel : Cert.Pre_table_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0132_Kernel [hPre_table_0132_Kernel : Cert.Pre_table_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0213_Kernel [hPre_table_0213_Kernel : Cert.Pre_table_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0231_Kernel [hPre_table_0231_Kernel : Cert.Pre_table_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0312_Kernel [hPre_table_0312_Kernel : Cert.Pre_table_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0321_Kernel [hPre_table_0321_Kernel : Cert.Pre_table_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1023_Kernel [hPre_table_1023_Kernel : Cert.Pre_table_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1032_Kernel [hPre_table_1032_Kernel : Cert.Pre_table_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1203_Kernel [hPre_table_1203_Kernel : Cert.Pre_table_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1230_Kernel [hPre_table_1230_Kernel : Cert.Pre_table_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1302_Kernel [hPre_table_1302_Kernel : Cert.Pre_table_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1320_Kernel [hPre_table_1320_Kernel : Cert.Pre_table_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2013_Kernel [hPre_table_2013_Kernel : Cert.Pre_table_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2031_Kernel [hPre_table_2031_Kernel : Cert.Pre_table_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2103_Kernel [hPre_table_2103_Kernel : Cert.Pre_table_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2130_Kernel [hPre_table_2130_Kernel : Cert.Pre_table_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2301_Kernel [hPre_table_2301_Kernel : Cert.Pre_table_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2310_Kernel [hPre_table_2310_Kernel : Cert.Pre_table_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3012_Kernel [hPre_table_3012_Kernel : Cert.Pre_table_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3021_Kernel [hPre_table_3021_Kernel : Cert.Pre_table_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3102_Kernel [hPre_table_3102_Kernel : Cert.Pre_table_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3120_Kernel [hPre_table_3120_Kernel : Cert.Pre_table_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3201_Kernel [hPre_table_3201_Kernel : Cert.Pre_table_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3210_Kernel [hPre_table_3210_Kernel : Cert.Pre_table_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0123_ReferenceIdeal [hReferenceIdeal : Cert.ReferenceIdeal.Facts] [hPre_table_0123_ReferenceIdeal : Cert.Pre_table_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0132_ReferenceIdeal [hReferenceIdeal : Cert.ReferenceIdeal.Facts] [hPre_table_0132_ReferenceIdeal : Cert.Pre_table_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0213_ReferenceIdeal [hReferenceIdeal : Cert.ReferenceIdeal.Facts] [hPre_table_0213_ReferenceIdeal : Cert.Pre_table_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0231_ReferenceIdeal [hReferenceIdeal : Cert.ReferenceIdeal.Facts] [hPre_table_0231_ReferenceIdeal : Cert.Pre_table_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0312_ReferenceIdeal [hReferenceIdeal : Cert.ReferenceIdeal.Facts] [hPre_table_0312_ReferenceIdeal : Cert.Pre_table_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0321_ReferenceIdeal [hReferenceIdeal : Cert.ReferenceIdeal.Facts] [hPre_table_0321_ReferenceIdeal : Cert.Pre_table_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1023_ReferenceIdeal [hReferenceIdeal : Cert.ReferenceIdeal.Facts] [hPre_table_1023_ReferenceIdeal : Cert.Pre_table_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1032_ReferenceIdeal [hReferenceIdeal : Cert.ReferenceIdeal.Facts] [hPre_table_1032_ReferenceIdeal : Cert.Pre_table_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1203_ReferenceIdeal [hReferenceIdeal : Cert.ReferenceIdeal.Facts] [hPre_table_1203_ReferenceIdeal : Cert.Pre_table_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1230_ReferenceIdeal [hReferenceIdeal : Cert.ReferenceIdeal.Facts] [hPre_table_1230_ReferenceIdeal : Cert.Pre_table_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1302_ReferenceIdeal [hReferenceIdeal : Cert.ReferenceIdeal.Facts] [hPre_table_1302_ReferenceIdeal : Cert.Pre_table_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1320_ReferenceIdeal [hReferenceIdeal : Cert.ReferenceIdeal.Facts] [hPre_table_1320_ReferenceIdeal : Cert.Pre_table_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2013_ReferenceIdeal [hReferenceIdeal : Cert.ReferenceIdeal.Facts] [hPre_table_2013_ReferenceIdeal : Cert.Pre_table_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2031_ReferenceIdeal [hReferenceIdeal : Cert.ReferenceIdeal.Facts] [hPre_table_2031_ReferenceIdeal : Cert.Pre_table_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2103_ReferenceIdeal [hReferenceIdeal : Cert.ReferenceIdeal.Facts] [hPre_table_2103_ReferenceIdeal : Cert.Pre_table_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2130_ReferenceIdeal [hReferenceIdeal : Cert.ReferenceIdeal.Facts] [hPre_table_2130_ReferenceIdeal : Cert.Pre_table_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2301_ReferenceIdeal [hReferenceIdeal : Cert.ReferenceIdeal.Facts] [hPre_table_2301_ReferenceIdeal : Cert.Pre_table_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2310_ReferenceIdeal [hReferenceIdeal : Cert.ReferenceIdeal.Facts] [hPre_table_2310_ReferenceIdeal : Cert.Pre_table_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3012_ReferenceIdeal [hReferenceIdeal : Cert.ReferenceIdeal.Facts] [hPre_table_3012_ReferenceIdeal : Cert.Pre_table_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3021_ReferenceIdeal [hReferenceIdeal : Cert.ReferenceIdeal.Facts] [hPre_table_3021_ReferenceIdeal : Cert.Pre_table_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3102_ReferenceIdeal [hReferenceIdeal : Cert.ReferenceIdeal.Facts] [hPre_table_3102_ReferenceIdeal : Cert.Pre_table_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3120_ReferenceIdeal [hReferenceIdeal : Cert.ReferenceIdeal.Facts] [hPre_table_3120_ReferenceIdeal : Cert.Pre_table_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3201_ReferenceIdeal [hReferenceIdeal : Cert.ReferenceIdeal.Facts] [hPre_table_3201_ReferenceIdeal : Cert.Pre_table_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3210_ReferenceIdeal [hReferenceIdeal : Cert.ReferenceIdeal.Facts] [hPre_table_3210_ReferenceIdeal : Cert.Pre_table_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_table_0123_Kernel : Cert.Pre_table_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0132_Kernel [hKernel : Cert.Kernel.Facts] [hPre_table_0132_Kernel : Cert.Pre_table_0132_Kernel.Facts] : Prop :=
  ∀ (m : (ℓ : Loc Cert.Kernel.nD Cert.Kernel.τ Cert.Kernel.sig) → Buf (Elt Bits) ℓ) (g : Dev Cert.Kernel.nD → PrngReg), Pre_Kernel_table_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0213_Kernel [hKernel : Cert.Kernel.Facts] [hPre_table_0213_Kernel : Cert.Pre_table_0213_Kernel.Facts] : Prop :=
  ∀ (m : (ℓ : Loc Cert.Kernel.nD Cert.Kernel.τ Cert.Kernel.sig) → Buf (Elt Bits) ℓ) (g : Dev Cert.Kernel.nD → PrngReg), Pre_Kernel_table_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0231_Kernel [hKernel : Cert.Kernel.Facts] [hPre_table_0231_Kernel : Cert.Pre_table_0231_Kernel.Facts] : Prop :=
  ∀ (m : (ℓ : Loc Cert.Kernel.nD Cert.Kernel.τ Cert.Kernel.sig) → Buf (Elt Bits) ℓ) (g : Dev Cert.Kernel.nD → PrngReg), Pre_Kernel_table_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0312_Kernel [hKernel : Cert.Kernel.Facts] [hPre_table_0312_Kernel : Cert.Pre_table_0312_Kernel.Facts] : Prop :=
  ∀ (m : (ℓ : Loc Cert.Kernel.nD Cert.Kernel.τ Cert.Kernel.sig) → Buf (Elt Bits) ℓ) (g : Dev Cert.Kernel.nD → PrngReg), Pre_Kernel_table_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0321_Kernel [hKernel : Cert.Kernel.Facts] [hPre_table_0321_Kernel : Cert.Pre_table_0321_Kernel.Facts] : Prop :=
  ∀ (m : (ℓ : Loc Cert.Kernel.nD Cert.Kernel.τ Cert.Kernel.sig) → Buf (Elt Bits) ℓ) (g : Dev Cert.Kernel.nD → PrngReg), Pre_Kernel_table_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1023_Kernel [hKernel : Cert.Kernel.Facts] [hPre_table_1023_Kernel : Cert.Pre_table_1023_Kernel.Facts] : Prop :=
  ∀ (m : (ℓ : Loc Cert.Kernel.nD Cert.Kernel.τ Cert.Kernel.sig) → Buf (Elt Bits) ℓ) (g : Dev Cert.Kernel.nD → PrngReg), Pre_Kernel_table_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1032_Kernel [hKernel : Cert.Kernel.Facts] [hPre_table_1032_Kernel : Cert.Pre_table_1032_Kernel.Facts] : Prop :=
  ∀ (m : (ℓ : Loc Cert.Kernel.nD Cert.Kernel.τ Cert.Kernel.sig) → Buf (Elt Bits) ℓ) (g : Dev Cert.Kernel.nD → PrngReg), Pre_Kernel_table_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1203_Kernel [hKernel : Cert.Kernel.Facts] [hPre_table_1203_Kernel : Cert.Pre_table_1203_Kernel.Facts] : Prop :=
  ∀ (m : (ℓ : Loc Cert.Kernel.nD Cert.Kernel.τ Cert.Kernel.sig) → Buf (Elt Bits) ℓ) (g : Dev Cert.Kernel.nD → PrngReg), Pre_Kernel_table_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1230_Kernel [hKernel : Cert.Kernel.Facts] [hPre_table_1230_Kernel : Cert.Pre_table_1230_Kernel.Facts] : Prop :=
  ∀ (m : (ℓ : Loc Cert.Kernel.nD Cert.Kernel.τ Cert.Kernel.sig) → Buf (Elt Bits) ℓ) (g : Dev Cert.Kernel.nD → PrngReg), Pre_Kernel_table_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1302_Kernel [hKernel : Cert.Kernel.Facts] [hPre_table_1302_Kernel : Cert.Pre_table_1302_Kernel.Facts] : Prop :=
  ∀ (m : (ℓ : Loc Cert.Kernel.nD Cert.Kernel.τ Cert.Kernel.sig) → Buf (Elt Bits) ℓ) (g : Dev Cert.Kernel.nD → PrngReg), Pre_Kernel_table_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1320_Kernel [hKernel : Cert.Kernel.Facts] [hPre_table_1320_Kernel : Cert.Pre_table_1320_Kernel.Facts] : Prop :=
  ∀ (m : (ℓ : Loc Cert.Kernel.nD Cert.Kernel.τ Cert.Kernel.sig) → Buf (Elt Bits) ℓ) (g : Dev Cert.Kernel.nD → PrngReg), Pre_Kernel_table_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2013_Kernel [hKernel : Cert.Kernel.Facts] [hPre_table_2013_Kernel : Cert.Pre_table_2013_Kernel.Facts] : Prop :=
  ∀ (m : (ℓ : Loc Cert.Kernel.nD Cert.Kernel.τ Cert.Kernel.sig) → Buf (Elt Bits) ℓ) (g : Dev Cert.Kernel.nD → PrngReg), Pre_Kernel_table_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2031_Kernel [hKernel : Cert.Kernel.Facts] [hPre_table_2031_Kernel : Cert.Pre_table_2031_Kernel.Facts] : Prop :=
  ∀ (m : (ℓ : Loc Cert.Kernel.nD Cert.Kernel.τ Cert.Kernel.sig) → Buf (Elt Bits) ℓ) (g : Dev Cert.Kernel.nD → PrngReg), Pre_Kernel_table_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2103_Kernel [hKernel : Cert.Kernel.Facts] [hPre_table_2103_Kernel : Cert.Pre_table_2103_Kernel.Facts] : Prop :=
  ∀ (m : (ℓ : Loc Cert.Kernel.nD Cert.Kernel.τ Cert.Kernel.sig) → Buf (Elt Bits) ℓ) (g : Dev Cert.Kernel.nD → PrngReg), Pre_Kernel_table_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2130_Kernel [hKernel : Cert.Kernel.Facts] [hPre_table_2130_Kernel : Cert.Pre_table_2130_Kernel.Facts] : Prop :=
  ∀ (m : (ℓ : Loc Cert.Kernel.nD Cert.Kernel.τ Cert.Kernel.sig) → Buf (Elt Bits) ℓ) (g : Dev Cert.Kernel.nD → PrngReg), Pre_Kernel_table_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2301_Kernel [hKernel : Cert.Kernel.Facts] [hPre_table_2301_Kernel : Cert.Pre_table_2301_Kernel.Facts] : Prop :=
  ∀ (m : (ℓ : Loc Cert.Kernel.nD Cert.Kernel.τ Cert.Kernel.sig) → Buf (Elt Bits) ℓ) (g : Dev Cert.Kernel.nD → PrngReg), Pre_Kernel_table_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2310_Kernel [hKernel : Cert.Kernel.Facts] [hPre_table_2310_Kernel : Cert.Pre_table_2310_Kernel.Facts] : Prop :=
  ∀ (m : (ℓ : Loc Cert.Kernel.nD Cert.Kernel.τ Cert.Kernel.sig) → Buf (Elt Bits) ℓ) (g : Dev Cert.Kernel.nD → PrngReg), Pre_Kernel_table_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3012_Kernel [hKernel : Cert.Kernel.Facts] [hPre_table_3012_Kernel : Cert.Pre_table_3012_Kernel.Facts] : Prop :=
  ∀ (m : (ℓ : Loc Cert.Kernel.nD Cert.Kernel.τ Cert.Kernel.sig) → Buf (Elt Bits) ℓ) (g : Dev Cert.Kernel.nD → PrngReg), Pre_Kernel_table_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3021_Kernel [hKernel : Cert.Kernel.Facts] [hPre_table_3021_Kernel : Cert.Pre_table_3021_Kernel.Facts] : Prop :=
  ∀ (m : (ℓ : Loc Cert.Kernel.nD Cert.Kernel.τ Cert.Kernel.sig) → Buf (Elt Bits) ℓ) (g : Dev Cert.Kernel.nD → PrngReg), Pre_Kernel_table_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3102_Kernel [hKernel : Cert.Kernel.Facts] [hPre_table_3102_Kernel : Cert.Pre_table_3102_Kernel.Facts] : Prop :=
  ∀ (m : (ℓ : Loc Cert.Kernel.nD Cert.Kernel.τ Cert.Kernel.sig) → Buf (Elt Bits) ℓ) (g : Dev Cert.Kernel.nD → PrngReg), Pre_Kernel_table_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3120_Kernel [hKernel : Cert.Kernel.Facts] [hPre_table_3120_Kernel : Cert.Pre_table_3120_Kernel.Facts] : Prop :=
  ∀ (m : (ℓ : Loc Cert.Kernel.nD Cert.Kernel.τ Cert.Kernel.sig) → Buf (Elt Bits) ℓ) (g : Dev Cert.Kernel.nD → PrngReg), Pre_Kernel_table_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3201_Kernel [hKernel : Cert.Kernel.Facts] [hPre_table_3201_Kernel : Cert.Pre_table_3201_Kernel.Facts] : Prop :=
  ∀ (m : (ℓ : Loc Cert.Kernel.nD Cert.Kernel.τ Cert.Kernel.sig) → Buf (Elt Bits) ℓ) (g : Dev Cert.Kernel.nD → PrngReg), Pre_Kernel_table_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3210_Kernel [hKernel : Cert.Kernel.Facts] [hPre_table_3210_Kernel : Cert.Pre_table_3210_Kernel.Facts] : Prop :=
  ∀ (m : (ℓ : Loc Cert.Kernel.nD Cert.Kernel.τ Cert.Kernel.sig) → Buf (Elt Bits) ℓ) (g : Dev Cert.Kernel.nD → PrngReg), Pre_Kernel_table_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_table_0123_Kernel : Cert.Pre_table_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0132_Kernel [hKernelIdeal : Cert.KernelIdeal.Facts] [hPre_table_0132_Kernel : Cert.Pre_table_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0213_Kernel [hKernelIdeal : Cert.KernelIdeal.Facts] [hPre_table_0213_Kernel : Cert.Pre_table_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0231_Kernel [hKernelIdeal : Cert.KernelIdeal.Facts] [hPre_table_0231_Kernel : Cert.Pre_table_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0312_Kernel [hKernelIdeal : Cert.KernelIdeal.Facts] [hPre_table_0312_Kernel : Cert.Pre_table_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0321_Kernel [hKernelIdeal : Cert.KernelIdeal.Facts] [hPre_table_0321_Kernel : Cert.Pre_table_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1023_Kernel [hKernelIdeal : Cert.KernelIdeal.Facts] [hPre_table_1023_Kernel : Cert.Pre_table_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1032_Kernel [hKernelIdeal : Cert.KernelIdeal.Facts] [hPre_table_1032_Kernel : Cert.Pre_table_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1203_Kernel [hKernelIdeal : Cert.KernelIdeal.Facts] [hPre_table_1203_Kernel : Cert.Pre_table_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1230_Kernel [hKernelIdeal : Cert.KernelIdeal.Facts] [hPre_table_1230_Kernel : Cert.Pre_table_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1302_Kernel [hKernelIdeal : Cert.KernelIdeal.Facts] [hPre_table_1302_Kernel : Cert.Pre_table_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1320_Kernel [hKernelIdeal : Cert.KernelIdeal.Facts] [hPre_table_1320_Kernel : Cert.Pre_table_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2013_Kernel [hKernelIdeal : Cert.KernelIdeal.Facts] [hPre_table_2013_Kernel : Cert.Pre_table_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2031_Kernel [hKernelIdeal : Cert.KernelIdeal.Facts] [hPre_table_2031_Kernel : Cert.Pre_table_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2103_Kernel [hKernelIdeal : Cert.KernelIdeal.Facts] [hPre_table_2103_Kernel : Cert.Pre_table_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2130_Kernel [hKernelIdeal : Cert.KernelIdeal.Facts] [hPre_table_2130_Kernel : Cert.Pre_table_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2301_Kernel [hKernelIdeal : Cert.KernelIdeal.Facts] [hPre_table_2301_Kernel : Cert.Pre_table_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2310_Kernel [hKernelIdeal : Cert.KernelIdeal.Facts] [hPre_table_2310_Kernel : Cert.Pre_table_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3012_Kernel [hKernelIdeal : Cert.KernelIdeal.Facts] [hPre_table_3012_Kernel : Cert.Pre_table_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3021_Kernel [hKernelIdeal : Cert.KernelIdeal.Facts] [hPre_table_3021_Kernel : Cert.Pre_table_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3102_Kernel [hKernelIdeal : Cert.KernelIdeal.Facts] [hPre_table_3102_Kernel : Cert.Pre_table_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3120_Kernel [hKernelIdeal : Cert.KernelIdeal.Facts] [hPre_table_3120_Kernel : Cert.Pre_table_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3201_Kernel [hKernelIdeal : Cert.KernelIdeal.Facts] [hPre_table_3201_Kernel : Cert.Pre_table_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3210_Kernel [hKernelIdeal : Cert.KernelIdeal.Facts] [hPre_table_3210_Kernel : Cert.Pre_table_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_0123_Kernel : Cert.Pre_table_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0132_Kernel [hKernelIdeal : Cert.KernelIdeal.Facts] [hReferenceIdeal : Cert.ReferenceIdeal.Facts] [hPre_table_0132_Kernel : Cert.Pre_table_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0132_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0213_Kernel [hKernelIdeal : Cert.KernelIdeal.Facts] [hReferenceIdeal : Cert.ReferenceIdeal.Facts] [hPre_table_0213_Kernel : Cert.Pre_table_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0213_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0231_Kernel [hKernelIdeal : Cert.KernelIdeal.Facts] [hReferenceIdeal : Cert.ReferenceIdeal.Facts] [hPre_table_0231_Kernel : Cert.Pre_table_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0231_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0312_Kernel [hKernelIdeal : Cert.KernelIdeal.Facts] [hReferenceIdeal : Cert.ReferenceIdeal.Facts] [hPre_table_0312_Kernel : Cert.Pre_table_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0312_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0321_Kernel [hKernelIdeal : Cert.KernelIdeal.Facts] [hReferenceIdeal : Cert.ReferenceIdeal.Facts] [hPre_table_0321_Kernel : Cert.Pre_table_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0321_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1023_Kernel [hKernelIdeal : Cert.KernelIdeal.Facts] [hReferenceIdeal : Cert.ReferenceIdeal.Facts] [hPre_table_1023_Kernel : Cert.Pre_table_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1023_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1032_Kernel [hKernelIdeal : Cert.KernelIdeal.Facts] [hReferenceIdeal : Cert.ReferenceIdeal.Facts] [hPre_table_1032_Kernel : Cert.Pre_table_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1032_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1203_Kernel [hKernelIdeal : Cert.KernelIdeal.Facts] [hReferenceIdeal : Cert.ReferenceIdeal.Facts] [hPre_table_1203_Kernel : Cert.Pre_table_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1203_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1230_Kernel [hKernelIdeal : Cert.KernelIdeal.Facts] [hReferenceIdeal : Cert.ReferenceIdeal.Facts] [hPre_table_1230_Kernel : Cert.Pre_table_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1230_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1302_Kernel [hKernelIdeal : Cert.KernelIdeal.Facts] [hReferenceIdeal : Cert.ReferenceIdeal.Facts] [hPre_table_1302_Kernel : Cert.Pre_table_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1302_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1320_Kernel [hKernelIdeal : Cert.KernelIdeal.Facts] [hReferenceIdeal : Cert.ReferenceIdeal.Facts] [hPre_table_1320_Kernel : Cert.Pre_table_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1320_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2013_Kernel [hKernelIdeal : Cert.KernelIdeal.Facts] [hReferenceIdeal : Cert.ReferenceIdeal.Facts] [hPre_table_2013_Kernel : Cert.Pre_table_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2013_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2031_Kernel [hKernelIdeal : Cert.KernelIdeal.Facts] [hReferenceIdeal : Cert.ReferenceIdeal.Facts] [hPre_table_2031_Kernel : Cert.Pre_table_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2031_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2103_Kernel [hKernelIdeal : Cert.KernelIdeal.Facts] [hReferenceIdeal : Cert.ReferenceIdeal.Facts] [hPre_table_2103_Kernel : Cert.Pre_table_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2103_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2130_Kernel [hKernelIdeal : Cert.KernelIdeal.Facts] [hReferenceIdeal : Cert.ReferenceIdeal.Facts] [hPre_table_2130_Kernel : Cert.Pre_table_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2130_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2301_Kernel [hKernelIdeal : Cert.KernelIdeal.Facts] [hReferenceIdeal : Cert.ReferenceIdeal.Facts] [hPre_table_2301_Kernel : Cert.Pre_table_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2301_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2310_Kernel [hKernelIdeal : Cert.KernelIdeal.Facts] [hReferenceIdeal : Cert.ReferenceIdeal.Facts] [hPre_table_2310_Kernel : Cert.Pre_table_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2310_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3012_Kernel [hKernelIdeal : Cert.KernelIdeal.Facts] [hReferenceIdeal : Cert.ReferenceIdeal.Facts] [hPre_table_3012_Kernel : Cert.Pre_table_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3012_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3021_Kernel [hKernelIdeal : Cert.KernelIdeal.Facts] [hReferenceIdeal : Cert.ReferenceIdeal.Facts] [hPre_table_3021_Kernel : Cert.Pre_table_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3021_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3102_Kernel [hKernelIdeal : Cert.KernelIdeal.Facts] [hReferenceIdeal : Cert.ReferenceIdeal.Facts] [hPre_table_3102_Kernel : Cert.Pre_table_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3102_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3120_Kernel [hKernelIdeal : Cert.KernelIdeal.Facts] [hReferenceIdeal : Cert.ReferenceIdeal.Facts] [hPre_table_3120_Kernel : Cert.Pre_table_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3120_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3201_Kernel [hKernelIdeal : Cert.KernelIdeal.Facts] [hReferenceIdeal : Cert.ReferenceIdeal.Facts] [hPre_table_3201_Kernel : Cert.Pre_table_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3201_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3210_Kernel [hKernelIdeal : Cert.KernelIdeal.Facts] [hReferenceIdeal : Cert.ReferenceIdeal.Facts] [hPre_table_3210_Kernel : Cert.Pre_table_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3210_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_table_0123_ReferenceIdeal : Cert.Pre_table_0123_ReferenceIdeal.Facts) (hPre_table_0132_ReferenceIdeal : Cert.Pre_table_0132_ReferenceIdeal.Facts) (hPre_table_0213_ReferenceIdeal : Cert.Pre_table_0213_ReferenceIdeal.Facts) (hPre_table_0231_ReferenceIdeal : Cert.Pre_table_0231_ReferenceIdeal.Facts) (hPre_table_0312_ReferenceIdeal : Cert.Pre_table_0312_ReferenceIdeal.Facts) (hPre_table_0321_ReferenceIdeal : Cert.Pre_table_0321_ReferenceIdeal.Facts) (hPre_table_1023_ReferenceIdeal : Cert.Pre_table_1023_ReferenceIdeal.Facts) (hPre_table_1032_ReferenceIdeal : Cert.Pre_table_1032_ReferenceIdeal.Facts) (hPre_table_1203_ReferenceIdeal : Cert.Pre_table_1203_ReferenceIdeal.Facts) (hPre_table_1230_ReferenceIdeal : Cert.Pre_table_1230_ReferenceIdeal.Facts) (hPre_table_1302_ReferenceIdeal : Cert.Pre_table_1302_ReferenceIdeal.Facts) (hPre_table_1320_ReferenceIdeal : Cert.Pre_table_1320_ReferenceIdeal.Facts) (hPre_table_2013_ReferenceIdeal : Cert.Pre_table_2013_ReferenceIdeal.Facts) (hPre_table_2031_ReferenceIdeal : Cert.Pre_table_2031_ReferenceIdeal.Facts) (hPre_table_2103_ReferenceIdeal : Cert.Pre_table_2103_ReferenceIdeal.Facts) (hPre_table_2130_ReferenceIdeal : Cert.Pre_table_2130_ReferenceIdeal.Facts) (hPre_table_2301_ReferenceIdeal : Cert.Pre_table_2301_ReferenceIdeal.Facts) (hPre_table_2310_ReferenceIdeal : Cert.Pre_table_2310_ReferenceIdeal.Facts) (hPre_table_3012_ReferenceIdeal : Cert.Pre_table_3012_ReferenceIdeal.Facts) (hPre_table_3021_ReferenceIdeal : Cert.Pre_table_3021_ReferenceIdeal.Facts) (hPre_table_3102_ReferenceIdeal : Cert.Pre_table_3102_ReferenceIdeal.Facts) (hPre_table_3120_ReferenceIdeal : Cert.Pre_table_3120_ReferenceIdeal.Facts) (hPre_table_3201_ReferenceIdeal : Cert.Pre_table_3201_ReferenceIdeal.Facts) (hPre_table_3210_ReferenceIdeal : Cert.Pre_table_3210_ReferenceIdeal.Facts) (hPre_table_0123_Kernel : Cert.Pre_table_0123_Kernel.Facts) (hPre_table_0132_Kernel : Cert.Pre_table_0132_Kernel.Facts) (hPre_table_0213_Kernel : Cert.Pre_table_0213_Kernel.Facts) (hPre_table_0231_Kernel : Cert.Pre_table_0231_Kernel.Facts) (hPre_table_0312_Kernel : Cert.Pre_table_0312_Kernel.Facts) (hPre_table_0321_Kernel : Cert.Pre_table_0321_Kernel.Facts) (hPre_table_1023_Kernel : Cert.Pre_table_1023_Kernel.Facts) (hPre_table_1032_Kernel : Cert.Pre_table_1032_Kernel.Facts) (hPre_table_1203_Kernel : Cert.Pre_table_1203_Kernel.Facts) (hPre_table_1230_Kernel : Cert.Pre_table_1230_Kernel.Facts) (hPre_table_1302_Kernel : Cert.Pre_table_1302_Kernel.Facts) (hPre_table_1320_Kernel : Cert.Pre_table_1320_Kernel.Facts) (hPre_table_2013_Kernel : Cert.Pre_table_2013_Kernel.Facts) (hPre_table_2031_Kernel : Cert.Pre_table_2031_Kernel.Facts) (hPre_table_2103_Kernel : Cert.Pre_table_2103_Kernel.Facts) (hPre_table_2130_Kernel : Cert.Pre_table_2130_Kernel.Facts) (hPre_table_2301_Kernel : Cert.Pre_table_2301_Kernel.Facts) (hPre_table_2310_Kernel : Cert.Pre_table_2310_Kernel.Facts) (hPre_table_3012_Kernel : Cert.Pre_table_3012_Kernel.Facts) (hPre_table_3021_Kernel : Cert.Pre_table_3021_Kernel.Facts) (hPre_table_3102_Kernel : Cert.Pre_table_3102_Kernel.Facts) (hPre_table_3120_Kernel : Cert.Pre_table_3120_Kernel.Facts) (hPre_table_3201_Kernel : Cert.Pre_table_3201_Kernel.Facts) (hPre_table_3210_Kernel : Cert.Pre_table_3210_Kernel.Facts),
    quiescent_ReferenceIdeal (hReferenceIdeal := hReferenceIdeal)
    ∧ quiescent_ReferenceIdeal_pre_table_0123_ReferenceIdeal (hReferenceIdeal := hReferenceIdeal) (hPre_table_0123_ReferenceIdeal := hPre_table_0123_ReferenceIdeal)
    ∧ quiescent_ReferenceIdeal_pre_table_0132_ReferenceIdeal (hReferenceIdeal := hReferenceIdeal) (hPre_table_0132_ReferenceIdeal := hPre_table_0132_ReferenceIdeal)
    ∧ quiescent_ReferenceIdeal_pre_table_0213_ReferenceIdeal (hReferenceIdeal := hReferenceIdeal) (hPre_table_0213_ReferenceIdeal := hPre_table_0213_ReferenceIdeal)
    ∧ quiescent_ReferenceIdeal_pre_table_0231_ReferenceIdeal (hReferenceIdeal := hReferenceIdeal) (hPre_table_0231_ReferenceIdeal := hPre_table_0231_ReferenceIdeal)
    ∧ quiescent_ReferenceIdeal_pre_table_0312_ReferenceIdeal (hReferenceIdeal := hReferenceIdeal) (hPre_table_0312_ReferenceIdeal := hPre_table_0312_ReferenceIdeal)
    ∧ quiescent_ReferenceIdeal_pre_table_0321_ReferenceIdeal (hReferenceIdeal := hReferenceIdeal) (hPre_table_0321_ReferenceIdeal := hPre_table_0321_ReferenceIdeal)
    ∧ quiescent_ReferenceIdeal_pre_table_1023_ReferenceIdeal (hReferenceIdeal := hReferenceIdeal) (hPre_table_1023_ReferenceIdeal := hPre_table_1023_ReferenceIdeal)
    ∧ quiescent_ReferenceIdeal_pre_table_1032_ReferenceIdeal (hReferenceIdeal := hReferenceIdeal) (hPre_table_1032_ReferenceIdeal := hPre_table_1032_ReferenceIdeal)
    ∧ quiescent_ReferenceIdeal_pre_table_1203_ReferenceIdeal (hReferenceIdeal := hReferenceIdeal) (hPre_table_1203_ReferenceIdeal := hPre_table_1203_ReferenceIdeal)
    ∧ quiescent_ReferenceIdeal_pre_table_1230_ReferenceIdeal (hReferenceIdeal := hReferenceIdeal) (hPre_table_1230_ReferenceIdeal := hPre_table_1230_ReferenceIdeal)
    ∧ quiescent_ReferenceIdeal_pre_table_1302_ReferenceIdeal (hReferenceIdeal := hReferenceIdeal) (hPre_table_1302_ReferenceIdeal := hPre_table_1302_ReferenceIdeal)
    ∧ quiescent_ReferenceIdeal_pre_table_1320_ReferenceIdeal (hReferenceIdeal := hReferenceIdeal) (hPre_table_1320_ReferenceIdeal := hPre_table_1320_ReferenceIdeal)
    ∧ quiescent_ReferenceIdeal_pre_table_2013_ReferenceIdeal (hReferenceIdeal := hReferenceIdeal) (hPre_table_2013_ReferenceIdeal := hPre_table_2013_ReferenceIdeal)
    ∧ quiescent_ReferenceIdeal_pre_table_2031_ReferenceIdeal (hReferenceIdeal := hReferenceIdeal) (hPre_table_2031_ReferenceIdeal := hPre_table_2031_ReferenceIdeal)
    ∧ quiescent_ReferenceIdeal_pre_table_2103_ReferenceIdeal (hReferenceIdeal := hReferenceIdeal) (hPre_table_2103_ReferenceIdeal := hPre_table_2103_ReferenceIdeal)
    ∧ quiescent_ReferenceIdeal_pre_table_2130_ReferenceIdeal (hReferenceIdeal := hReferenceIdeal) (hPre_table_2130_ReferenceIdeal := hPre_table_2130_ReferenceIdeal)
    ∧ quiescent_ReferenceIdeal_pre_table_2301_ReferenceIdeal (hReferenceIdeal := hReferenceIdeal) (hPre_table_2301_ReferenceIdeal := hPre_table_2301_ReferenceIdeal)
    ∧ quiescent_ReferenceIdeal_pre_table_2310_ReferenceIdeal (hReferenceIdeal := hReferenceIdeal) (hPre_table_2310_ReferenceIdeal := hPre_table_2310_ReferenceIdeal)
    ∧ quiescent_ReferenceIdeal_pre_table_3012_ReferenceIdeal (hReferenceIdeal := hReferenceIdeal) (hPre_table_3012_ReferenceIdeal := hPre_table_3012_ReferenceIdeal)
    ∧ quiescent_ReferenceIdeal_pre_table_3021_ReferenceIdeal (hReferenceIdeal := hReferenceIdeal) (hPre_table_3021_ReferenceIdeal := hPre_table_3021_ReferenceIdeal)
    ∧ quiescent_ReferenceIdeal_pre_table_3102_ReferenceIdeal (hReferenceIdeal := hReferenceIdeal) (hPre_table_3102_ReferenceIdeal := hPre_table_3102_ReferenceIdeal)
    ∧ quiescent_ReferenceIdeal_pre_table_3120_ReferenceIdeal (hReferenceIdeal := hReferenceIdeal) (hPre_table_3120_ReferenceIdeal := hPre_table_3120_ReferenceIdeal)
    ∧ quiescent_ReferenceIdeal_pre_table_3201_ReferenceIdeal (hReferenceIdeal := hReferenceIdeal) (hPre_table_3201_ReferenceIdeal := hPre_table_3201_ReferenceIdeal)
    ∧ quiescent_ReferenceIdeal_pre_table_3210_ReferenceIdeal (hReferenceIdeal := hReferenceIdeal) (hPre_table_3210_ReferenceIdeal := hPre_table_3210_ReferenceIdeal)
    ∧ quiescent_Kernel (hKernel := hKernel) (hPre_table_0123_Kernel := hPre_table_0123_Kernel)
    ∧ quiescent_Kernel_pre_table_0132_Kernel (hKernel := hKernel) (hPre_table_0132_Kernel := hPre_table_0132_Kernel)
    ∧ quiescent_Kernel_pre_table_0213_Kernel (hKernel := hKernel) (hPre_table_0213_Kernel := hPre_table_0213_Kernel)
    ∧ quiescent_Kernel_pre_table_0231_Kernel (hKernel := hKernel) (hPre_table_0231_Kernel := hPre_table_0231_Kernel)
    ∧ quiescent_Kernel_pre_table_0312_Kernel (hKernel := hKernel) (hPre_table_0312_Kernel := hPre_table_0312_Kernel)
    ∧ quiescent_Kernel_pre_table_0321_Kernel (hKernel := hKernel) (hPre_table_0321_Kernel := hPre_table_0321_Kernel)
    ∧ quiescent_Kernel_pre_table_1023_Kernel (hKernel := hKernel) (hPre_table_1023_Kernel := hPre_table_1023_Kernel)
    ∧ quiescent_Kernel_pre_table_1032_Kernel (hKernel := hKernel) (hPre_table_1032_Kernel := hPre_table_1032_Kernel)
    ∧ quiescent_Kernel_pre_table_1203_Kernel (hKernel := hKernel) (hPre_table_1203_Kernel := hPre_table_1203_Kernel)
    ∧ quiescent_Kernel_pre_table_1230_Kernel (hKernel := hKernel) (hPre_table_1230_Kernel := hPre_table_1230_Kernel)
    ∧ quiescent_Kernel_pre_table_1302_Kernel (hKernel := hKernel) (hPre_table_1302_Kernel := hPre_table_1302_Kernel)
    ∧ quiescent_Kernel_pre_table_1320_Kernel (hKernel := hKernel) (hPre_table_1320_Kernel := hPre_table_1320_Kernel)
    ∧ quiescent_Kernel_pre_table_2013_Kernel (hKernel := hKernel) (hPre_table_2013_Kernel := hPre_table_2013_Kernel)
    ∧ quiescent_Kernel_pre_table_2031_Kernel (hKernel := hKernel) (hPre_table_2031_Kernel := hPre_table_2031_Kernel)
    ∧ quiescent_Kernel_pre_table_2103_Kernel (hKernel := hKernel) (hPre_table_2103_Kernel := hPre_table_2103_Kernel)
    ∧ quiescent_Kernel_pre_table_2130_Kernel (hKernel := hKernel) (hPre_table_2130_Kernel := hPre_table_2130_Kernel)
    ∧ quiescent_Kernel_pre_table_2301_Kernel (hKernel := hKernel) (hPre_table_2301_Kernel := hPre_table_2301_Kernel)
    ∧ quiescent_Kernel_pre_table_2310_Kernel (hKernel := hKernel) (hPre_table_2310_Kernel := hPre_table_2310_Kernel)
    ∧ quiescent_Kernel_pre_table_3012_Kernel (hKernel := hKernel) (hPre_table_3012_Kernel := hPre_table_3012_Kernel)
    ∧ quiescent_Kernel_pre_table_3021_Kernel (hKernel := hKernel) (hPre_table_3021_Kernel := hPre_table_3021_Kernel)
    ∧ quiescent_Kernel_pre_table_3102_Kernel (hKernel := hKernel) (hPre_table_3102_Kernel := hPre_table_3102_Kernel)
    ∧ quiescent_Kernel_pre_table_3120_Kernel (hKernel := hKernel) (hPre_table_3120_Kernel := hPre_table_3120_Kernel)
    ∧ quiescent_Kernel_pre_table_3201_Kernel (hKernel := hKernel) (hPre_table_3201_Kernel := hPre_table_3201_Kernel)
    ∧ quiescent_Kernel_pre_table_3210_Kernel (hKernel := hKernel) (hPre_table_3210_Kernel := hPre_table_3210_Kernel)
    ∧ quiescent_KernelIdeal (hKernelIdeal := hKernelIdeal) (hPre_table_0123_Kernel := hPre_table_0123_Kernel)
    ∧ quiescent_KernelIdeal_pre_table_0132_Kernel (hKernelIdeal := hKernelIdeal) (hPre_table_0132_Kernel := hPre_table_0132_Kernel)
    ∧ quiescent_KernelIdeal_pre_table_0213_Kernel (hKernelIdeal := hKernelIdeal) (hPre_table_0213_Kernel := hPre_table_0213_Kernel)
    ∧ quiescent_KernelIdeal_pre_table_0231_Kernel (hKernelIdeal := hKernelIdeal) (hPre_table_0231_Kernel := hPre_table_0231_Kernel)
    ∧ quiescent_KernelIdeal_pre_table_0312_Kernel (hKernelIdeal := hKernelIdeal) (hPre_table_0312_Kernel := hPre_table_0312_Kernel)
    ∧ quiescent_KernelIdeal_pre_table_0321_Kernel (hKernelIdeal := hKernelIdeal) (hPre_table_0321_Kernel := hPre_table_0321_Kernel)
    ∧ quiescent_KernelIdeal_pre_table_1023_Kernel (hKernelIdeal := hKernelIdeal) (hPre_table_1023_Kernel := hPre_table_1023_Kernel)
    ∧ quiescent_KernelIdeal_pre_table_1032_Kernel (hKernelIdeal := hKernelIdeal) (hPre_table_1032_Kernel := hPre_table_1032_Kernel)
    ∧ quiescent_KernelIdeal_pre_table_1203_Kernel (hKernelIdeal := hKernelIdeal) (hPre_table_1203_Kernel := hPre_table_1203_Kernel)
    ∧ quiescent_KernelIdeal_pre_table_1230_Kernel (hKernelIdeal := hKernelIdeal) (hPre_table_1230_Kernel := hPre_table_1230_Kernel)
    ∧ quiescent_KernelIdeal_pre_table_1302_Kernel (hKernelIdeal := hKernelIdeal) (hPre_table_1302_Kernel := hPre_table_1302_Kernel)
    ∧ quiescent_KernelIdeal_pre_table_1320_Kernel (hKernelIdeal := hKernelIdeal) (hPre_table_1320_Kernel := hPre_table_1320_Kernel)
    ∧ quiescent_KernelIdeal_pre_table_2013_Kernel (hKernelIdeal := hKernelIdeal) (hPre_table_2013_Kernel := hPre_table_2013_Kernel)
    ∧ quiescent_KernelIdeal_pre_table_2031_Kernel (hKernelIdeal := hKernelIdeal) (hPre_table_2031_Kernel := hPre_table_2031_Kernel)
    ∧ quiescent_KernelIdeal_pre_table_2103_Kernel (hKernelIdeal := hKernelIdeal) (hPre_table_2103_Kernel := hPre_table_2103_Kernel)
    ∧ quiescent_KernelIdeal_pre_table_2130_Kernel (hKernelIdeal := hKernelIdeal) (hPre_table_2130_Kernel := hPre_table_2130_Kernel)
    ∧ quiescent_KernelIdeal_pre_table_2301_Kernel (hKernelIdeal := hKernelIdeal) (hPre_table_2301_Kernel := hPre_table_2301_Kernel)
    ∧ quiescent_KernelIdeal_pre_table_2310_Kernel (hKernelIdeal := hKernelIdeal) (hPre_table_2310_Kernel := hPre_table_2310_Kernel)
    ∧ quiescent_KernelIdeal_pre_table_3012_Kernel (hKernelIdeal := hKernelIdeal) (hPre_table_3012_Kernel := hPre_table_3012_Kernel)
    ∧ quiescent_KernelIdeal_pre_table_3021_Kernel (hKernelIdeal := hKernelIdeal) (hPre_table_3021_Kernel := hPre_table_3021_Kernel)
    ∧ quiescent_KernelIdeal_pre_table_3102_Kernel (hKernelIdeal := hKernelIdeal) (hPre_table_3102_Kernel := hPre_table_3102_Kernel)
    ∧ quiescent_KernelIdeal_pre_table_3120_Kernel (hKernelIdeal := hKernelIdeal) (hPre_table_3120_Kernel := hPre_table_3120_Kernel)
    ∧ quiescent_KernelIdeal_pre_table_3201_Kernel (hKernelIdeal := hKernelIdeal) (hPre_table_3201_Kernel := hPre_table_3201_Kernel)
    ∧ quiescent_KernelIdeal_pre_table_3210_Kernel (hKernelIdeal := hKernelIdeal) (hPre_table_3210_Kernel := hPre_table_3210_Kernel)
    ∧ preserves_Kernel_KernelIdeal
    ∧ algebraic_KernelIdeal_ReferenceIdeal (hKernelIdeal := hKernelIdeal) (hReferenceIdeal := hReferenceIdeal) (hPre_table_0123_Kernel := hPre_table_0123_Kernel)
    ∧ algebraic_KernelIdeal_ReferenceIdeal_pre_table_0132_Kernel (hKernelIdeal := hKernelIdeal) (hReferenceIdeal := hReferenceIdeal) (hPre_table_0132_Kernel := hPre_table_0132_Kernel)
    ∧ algebraic_KernelIdeal_ReferenceIdeal_pre_table_0213_Kernel (hKernelIdeal := hKernelIdeal) (hReferenceIdeal := hReferenceIdeal) (hPre_table_0213_Kernel := hPre_table_0213_Kernel)
    ∧ algebraic_KernelIdeal_ReferenceIdeal_pre_table_0231_Kernel (hKernelIdeal := hKernelIdeal) (hReferenceIdeal := hReferenceIdeal) (hPre_table_0231_Kernel := hPre_table_0231_Kernel)
    ∧ algebraic_KernelIdeal_ReferenceIdeal_pre_table_0312_Kernel (hKernelIdeal := hKernelIdeal) (hReferenceIdeal := hReferenceIdeal) (hPre_table_0312_Kernel := hPre_table_0312_Kernel)
    ∧ algebraic_KernelIdeal_ReferenceIdeal_pre_table_0321_Kernel (hKernelIdeal := hKernelIdeal) (hReferenceIdeal := hReferenceIdeal) (hPre_table_0321_Kernel := hPre_table_0321_Kernel)
    ∧ algebraic_KernelIdeal_ReferenceIdeal_pre_table_1023_Kernel (hKernelIdeal := hKernelIdeal) (hReferenceIdeal := hReferenceIdeal) (hPre_table_1023_Kernel := hPre_table_1023_Kernel)
    ∧ algebraic_KernelIdeal_ReferenceIdeal_pre_table_1032_Kernel (hKernelIdeal := hKernelIdeal) (hReferenceIdeal := hReferenceIdeal) (hPre_table_1032_Kernel := hPre_table_1032_Kernel)
    ∧ algebraic_KernelIdeal_ReferenceIdeal_pre_table_1203_Kernel (hKernelIdeal := hKernelIdeal) (hReferenceIdeal := hReferenceIdeal) (hPre_table_1203_Kernel := hPre_table_1203_Kernel)
    ∧ algebraic_KernelIdeal_ReferenceIdeal_pre_table_1230_Kernel (hKernelIdeal := hKernelIdeal) (hReferenceIdeal := hReferenceIdeal) (hPre_table_1230_Kernel := hPre_table_1230_Kernel)
    ∧ algebraic_KernelIdeal_ReferenceIdeal_pre_table_1302_Kernel (hKernelIdeal := hKernelIdeal) (hReferenceIdeal := hReferenceIdeal) (hPre_table_1302_Kernel := hPre_table_1302_Kernel)
    ∧ algebraic_KernelIdeal_ReferenceIdeal_pre_table_1320_Kernel (hKernelIdeal := hKernelIdeal) (hReferenceIdeal := hReferenceIdeal) (hPre_table_1320_Kernel := hPre_table_1320_Kernel)
    ∧ algebraic_KernelIdeal_ReferenceIdeal_pre_table_2013_Kernel (hKernelIdeal := hKernelIdeal) (hReferenceIdeal := hReferenceIdeal) (hPre_table_2013_Kernel := hPre_table_2013_Kernel)
    ∧ algebraic_KernelIdeal_ReferenceIdeal_pre_table_2031_Kernel (hKernelIdeal := hKernelIdeal) (hReferenceIdeal := hReferenceIdeal) (hPre_table_2031_Kernel := hPre_table_2031_Kernel)
    ∧ algebraic_KernelIdeal_ReferenceIdeal_pre_table_2103_Kernel (hKernelIdeal := hKernelIdeal) (hReferenceIdeal := hReferenceIdeal) (hPre_table_2103_Kernel := hPre_table_2103_Kernel)
    ∧ algebraic_KernelIdeal_ReferenceIdeal_pre_table_2130_Kernel (hKernelIdeal := hKernelIdeal) (hReferenceIdeal := hReferenceIdeal) (hPre_table_2130_Kernel := hPre_table_2130_Kernel)
    ∧ algebraic_KernelIdeal_ReferenceIdeal_pre_table_2301_Kernel (hKernelIdeal := hKernelIdeal) (hReferenceIdeal := hReferenceIdeal) (hPre_table_2301_Kernel := hPre_table_2301_Kernel)
    ∧ algebraic_KernelIdeal_ReferenceIdeal_pre_table_2310_Kernel (hKernelIdeal := hKernelIdeal) (hReferenceIdeal := hReferenceIdeal) (hPre_table_2310_Kernel := hPre_table_2310_Kernel)
    ∧ algebraic_KernelIdeal_ReferenceIdeal_pre_table_3012_Kernel (hKernelIdeal := hKernelIdeal) (hReferenceIdeal := hReferenceIdeal) (hPre_table_3012_Kernel := hPre_table_3012_Kernel)
    ∧ algebraic_KernelIdeal_ReferenceIdeal_pre_table_3021_Kernel (hKernelIdeal := hKernelIdeal) (hReferenceIdeal := hReferenceIdeal) (hPre_table_3021_Kernel := hPre_table_3021_Kernel)
    ∧ algebraic_KernelIdeal_ReferenceIdeal_pre_table_3102_Kernel (hKernelIdeal := hKernelIdeal) (hReferenceIdeal := hReferenceIdeal) (hPre_table_3102_Kernel := hPre_table_3102_Kernel)
    ∧ algebraic_KernelIdeal_ReferenceIdeal_pre_table_3120_Kernel (hKernelIdeal := hKernelIdeal) (hReferenceIdeal := hReferenceIdeal) (hPre_table_3120_Kernel := hPre_table_3120_Kernel)
    ∧ algebraic_KernelIdeal_ReferenceIdeal_pre_table_3201_Kernel (hKernelIdeal := hKernelIdeal) (hReferenceIdeal := hReferenceIdeal) (hPre_table_3201_Kernel := hPre_table_3201_Kernel)
    ∧ algebraic_KernelIdeal_ReferenceIdeal_pre_table_3210_Kernel (hKernelIdeal := hKernelIdeal) (hReferenceIdeal := hReferenceIdeal) (hPre_table_3210_Kernel := hPre_table_3210_Kernel)
-- ==== Pre_table_0123_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0123_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0132_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0132_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0213_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0213_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0231_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0231_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0312_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0312_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0321_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_0321_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1023_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1023_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1032_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1032_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1203_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1203_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1230_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1230_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1302_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1302_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1320_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_1320_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2013_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2013_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2031_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2031_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2103_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2103_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2130_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2130_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2301_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2301_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2310_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_2310_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3012_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3012_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3021_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3021_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3102_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3102_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3120_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3120_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3201_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3201_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3210_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_table_3210_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel.lean ====
abbrev S1x1024x1024 : Shape := ⟨3, ![1, 1024, 1024]⟩
abbrev S4 : Shape := ⟨1, ![4]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .f32⟩
  | .local _ .smem, ⟨0, _⟩ => ⟨S4, .i32⟩
  | _, _ => ⟨S1x1024x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (v4 : BitVec 32) : Nat :=
  let c0_i32_4 : BitVec 32 := 0#32
  let c1_i32_3 : BitVec 32 := 1#32
  let v18 : BitVec 32 := Scalar.muli v4 c1_i32_3
  let v19 : BitVec 32 := Scalar.addi c0_i32_4 v18
  v19.toNat

def k0_dev2 (d0 : Dev nD) (v5 : BitVec 32) (v8 : BitVec 32) (v11 : BitVec 32) (v14 : BitVec 32) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_6 : BitVec 32 := 1#32
  let v20 : BitVec 32 := Scalar.muli v16 c1_i32_6
  let v21 : BitVec 32 := Scalar.addi c0_i32_7 v20
  v21.toNat

def k0_chk2 (d0 : Dev nD) (v5 : BitVec 32) (v8 : BitVec 32) (v11 : BitVec 32) (v14 : BitVec 32) : Prop :=
  ((k0_dev2 d0 v5 v8 v11 v14) < nD)
theorem k0_dev2_lt : ∀ (d0 : Dev nD) (v5 : BitVec 32) (v8 : BitVec 32) (v11 : BitVec 32) (v14 : BitVec 32) (k0_hw2 : k0_chk2 d0 v5 v8 v11 v14), (k0_dev2 d0 v5 v8 v11 v14) < nD := fun d0 v5 v8 v11 v14 k0_hw2 => k0_hw2

def k0_dev3 (v4 : BitVec 32) : Nat :=
  let c0_i32_10 : BitVec 32 := 0#32
  let c1_i32_9 : BitVec 32 := 1#32
  let v22 : BitVec 32 := Scalar.muli v4 c1_i32_9
  let v23 : BitVec 32 := Scalar.addi c0_i32_10 v22
  v23.toNat

def k0_chk1 (v4 : BitVec 32) : Prop :=
  ((k0_dev1 v4) < nD) ∧
  ((k0_dev3 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Proof.Table.lean ====
/-
# The routing table, and the devices its words name

`pi` is a table of four words, the same on every device, holding a permutation `σ` of the devices: word `d` is `σ d`.
Device `c` sends its block to `σ c` and receives the block of `σ.symm c`. This file says what it means for a table
to hold `σ`, and that the kernel's three device numbers, computed from the words it reads, are `σ c`, `σ.symm c` and
`σ c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic Idealize.ShloMosaic.TcCoe

/-- A permutation of the four devices. -/
abbrev Route : Type := Equiv.Perm (Dev nD)

/-- The word a table holds for device `d`. -/
abbrev wordOf (d : Dev nD) : BitVec 32 := BitVec.ofNat 32 d.val

/-- The table `t` holds the permutation `σ`: its word `d` is the number of device `σ d`. -/
def HoldsRoute (σ : Route) (t : IVec S4 32) : Prop := ∀ i : S4.Idx, t i = wordOf (σ (i 0))

/-- The word of a device, put through the chain of the first signal's address, is the device's number. -/
theorem dev1_word (d : Dev nD) : k0_dev1 (wordOf d) = d.val := by revert d; decide
/-- The same of the remote copy's address. -/
theorem dev3_word (d : Dev nD) : k0_dev3 (wordOf d) = d.val := by revert d; decide
/-- The second signal's address, computed from four words naming distinct devices, one of them (device `j`'s) naming
    `c`: the number of device `j`. -/
theorem dev2_words : ∀ w0 w1 w2 w3 : Dev nD, w0 ≠ w1 → w0 ≠ w2 → w0 ≠ w3 → w1 ≠ w2 → w1 ≠ w3 → w2 ≠ w3 → ∀ j : Dev nD,
    k0_dev2 ((![w0, w1, w2, w3] : Fin 4 → Dev nD) j) (wordOf w0) (wordOf w1) (wordOf w2) (wordOf w3) = j.val := by
  decide +kernel
/-- So of a table that holds `σ` it is the device whose word is `c`'s number, that is `σ.symm c`. -/
theorem dev2_word (σ : Route) (c : Dev nD) :
    k0_dev2 c (wordOf (σ 0)) (wordOf (σ 1)) (wordOf (σ 2)) (wordOf (σ 3)) = (σ.symm c).val := by
  have hne : ∀ a b : Dev nD, a ≠ b → σ a ≠ σ b := fun _ _ h => σ.injective.ne h
  have hvec : (![σ 0, σ 1, σ 2, σ 3] : Fin 4 → Dev nD) (σ.symm c) = c := by
    have h4 : ∀ j : Fin 4, (![σ 0, σ 1, σ 2, σ 3] : Fin 4 → Dev nD) j = σ j := fun j => by fin_cases j <;> rfl
    rw [h4, Equiv.apply_symm_apply]
  have h := dev2_words (σ 0) (σ 1) (σ 2) (σ 3) (hne _ _ (by decide)) (hne _ _ (by decide)) (hne _ _ (by decide))
    (hne _ _ (by decide)) (hne _ _ (by decide)) (hne _ _ (by decide)) (σ.symm c)
  rwa [hvec] at h

/-- Every device's word passes the check the kernel makes of the word it read. -/
theorem chk1_word (d : Dev nD) : k0_chk1 (wordOf d) :=
  ⟨by rw [dev1_word]; exact d.isLt, by rw [dev3_word]; exact d.isLt⟩

variable {F : FTy → Type} [FloatOps F]

/-- The word the kernel loads from the staged table `t` at offset `off`. -/
abbrev wordAt (t : (cc0_stg0_0 : Ref sig .tc).ty.Contents (Elt F)) (off : Fin 1 → ℕ) (h : ∀ a, off a + S1.size a ≤ S4.size a) : BitVec 32 :=
  ((Memref.whole cc0_stg0_0).access (Rect.unit (s := S4) off S1.size h) : View sig .tc _ _ _).read (Elt F) t
    (Shape.Idx.first (s := S1) (numel1_S1.symm ▸ Nat.one_pos))

omit [FloatOps F] in
/-- Loading word `d` of a table that holds `σ` gives the word of `σ d`. -/
theorem wordAt_route {σ : Route} {t : (cc0_stg0_0 : Ref sig .tc).ty.Contents (Elt F)} (ht : HoldsRoute σ t)
    (off : Fin 1 → ℕ) (h : ∀ a, off a + S1.size a ≤ S4.size a) (d : Dev nD) (hd : off 0 = d.val) :
    wordAt t off h = wordOf (σ d) := by
  refine (ht _).trans (congrArg (fun e => wordOf (σ e)) (Fin.ext ?_))
  show off 0 + _ = d.val
  rw [hd]; rfl

end Cert.Permute

end
-- ==== Proof.Protocol.lean ====
/-
# The protocol between the devices

Fix a permutation `σ`. Every device `c` has three semaphores that other devices may raise or wait on:

* the barrier semaphore. `c` waits there for 2. Two devices signal it by 1 each: `σ.symm c`, whose FIRST signal goes to
  `c` (it hands over nothing: that device is `c`'s sender, and `c` needs nothing of it yet), and `σ c`, whose SECOND
  signal goes to `c` (it hands over `σ c`'s result array, at whatever it holds: `c` is about to copy into it). When
  `σ c = c` or `σ c = σ.symm c` the two are one device, which then signals twice; the two signals stay told apart by
  which of them they are.
* the send semaphore, raised by `c`'s own copy when its source has been read: it hands back `c`'s block of `x`.
* the receive semaphore, raised on `c` by the copy of `σ.symm c` when it has landed: it hands over `c`'s result array,
  which then holds the block of `σ.symm c`.

No device reuses a semaphore, so each has one round. A device waits on its barrier owing only the landing on `σ c`'s
receive semaphore, and on the two copy semaphores owing nothing, so barrier before receive orders all waits.
-/
module

public import proofs.«01_k».proof.Proof.Table

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the protocol: the copies of the staged table, and rounds whose duties are named by two booleans. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- A device's three cells: barrier, send, receive. -/
abbrev semOf : Fin 3 → SemLoc sig := fun | 0 => .reg barS | 1 => .dma sendS | 2 => .dma recvS
abbrev cell (c : Dev nD) (k : Fin 3) : GSem nD τ sig := ((c : Thread nD τ), semOf k)
abbrev barCell (c : Dev nD) : GSem nD τ sig := cell c 0
abbrev sendCell (c : Dev nD) : GSem nD τ sig := cell c 1
abbrev recvCell (c : Dev nD) : GSem nD τ sig := cell c 2

theorem semOf_injective : Function.Injective semOf := by decide
theorem cell_injective : Function.Injective fun ck : Dev nD × Fin 3 => cell ck.1 ck.2 := by
  rintro ⟨c, k⟩ ⟨c', k'⟩ h
  obtain ⟨h1, h2⟩ := Prod.mk.inj h
  have hc : c = c' := congrArg Prod.fst h1
  have hk : k = k' := semOf_injective h2
  rw [hc, hk]
theorem cell_eq_iff {c c' : Dev nD} {k k' : Fin 3} : cell c k = cell c' k' ↔ c = c' ∧ k = k' :=
  ⟨fun h => Prod.mk.inj (cell_injective (a₁ := (c, k)) (a₂ := (c', k')) h), fun h => by rw [h.1, h.2]⟩

/-! ## What the arrays hold -/

abbrev xM : Memref sig .tc .hbm S1x1024x1024 .f32 := Memref.whole main_arg0
abbrev oM : Memref sig .tc .hbm S1x1024x1024 .f32 := Memref.whole main_v1

/-- What one copy adds to the semaphores of its two ends. -/
def units : ℕ := (oM : Memref sig .tc .hbm S1x1024x1024 .f32).view.dmaCredit
/-- The two ends' arrays are alike, so count alike. -/
theorem units_source : (xM : Memref sig .tc .hbm S1x1024x1024 .f32).view.dmaCredit = units := by
  unfold units View.dmaCredit
  show sig.dmaCredit _ _ _ _ _ = sig.dmaCredit _ _ _ _ _
  unfold sig
  dsimp only
theorem units_pos : 0 < units := View.dmaCredit_pos _ (Shape.numel_pos fun a => by fin_cases a <;> decide)

variable (σ : Route) (m : (ℓ : Loc nD τ sig) → Buf (Elt F) ℓ)

/-- Device `c`'s block of `x`, and what its result array holds after the run: the block of the device routed to it. -/
abbrev given (c : Dev nD) : Buf (Elt F) ((c : Thread nD τ).loc main_arg0) := m ((c : Thread nD τ).loc main_arg0)
abbrev moved (c : Dev nD) : Buf (Elt F) ((c : Thread nD τ).loc main_v1) := given m (σ.symm c)

/-- Device `c`'s block of `x` is as launched. -/
def xHeld (c : Dev nD) : sProp 𝕄 := ((c : Thread nD τ).loc main_arg0) ↦{fullShare} given m c
/-- Device `c`'s result array holds `f`. -/
def outHeld (c : Dev nD) (f : Buf (Elt F) ((c : Thread nD τ).loc main_v1)) : sProp 𝕄 := ((c : Thread nD τ).loc main_v1) ↦{fullShare} f

omit [FloatOps F] in
instance xHeld_storable (c : Dev nD) : BI.Storable (upEmb : UEmb _ 𝕄) (xHeld m c) := by unfold xHeld; infer_instance
omit [FloatOps F] in
instance outHeld_storable (c : Dev nD) (f) : BI.Storable (upEmb : UEmb _ 𝕄) (outHeld (F := F) c f) := by unfold outHeld; infer_instance

/-! ## The schedule -/

/-- What the second signal to `c`'s barrier hands over: the result array of its sender `σ c`, and that this device is at
    the start of its receive semaphore. -/
def lent (c : Dev nD) : sProp 𝕄 := iprop((∃ f, outHeld (σ c) f) ∗ reached ER (recvCell (σ c)) 0)

/-- What the duty `d` of a cell of device `c` hands over. -/
def handed (c : Dev nD) : SemLoc sig → Bool → sProp 𝕄
  | .reg _, true => lent σ c
  | .reg _, false => iprop(emp)
  | .dma q, _ => if q = recvS then outHeld c (moved σ m c) else if q = sendS then xHeld m c else iprop(emp)

/-- The duties of a cell: a barrier has both, a copy's semaphore one. -/
def dutiesOf : SemLoc sig → Finset Bool
  | .reg _ => Finset.univ
  | .dma q => if q = recvS ∨ q = sendS then {false} else ∅

/-- The units of a duty. -/
def unitsOf : SemLoc sig → ℕ
  | .reg _ => 1
  | .dma _ => units

omit [FloatOps F] in
instance handed_storable (c : Dev nD) (s : SemLoc sig) (d : Bool) : BI.Storable (upEmb : UEmb _ 𝕄) (handed σ m c s d) := by
  cases s <;> cases d <;> dsimp only [handed, lent]
  all_goals first | infer_instance | ((repeat' split) <;> infer_instance)

/-- The one round of every TensorCore's cells. -/
def sched : Rounds.Schedule (GSem nD τ sig) Bool 𝕄 where
  duties g r := if r = 0 ∧ g.1.2 = .tc then dutiesOf g.2 else ∅
  unitless _ := False
  amount g _ _ := unitsOf g.2
  payload g _ d := handed σ m g.1.1 g.2 d
  amount_pos g _ _ _ := by
    cases g.2 with
    | reg _ => exact Nat.one_pos
    | dma _ => exact units_pos

instance sched_storable (g : GSem nD τ sig) (r : ℕ) (d : Bool) : BI.Storable (upEmb : UEmb _ 𝕄) ((sched σ m).payload g r d) :=
  handed_storable σ m g.1.1 g.2 d

omit [FloatOps F] in
theorem duties_first (c : Dev nD) (k : Fin 3) : (sched σ m).duties (cell c k) 0 = dutiesOf (semOf k) := by
  dsimp only [sched]; exact if_pos ⟨rfl, rfl⟩
omit [FloatOps F] in
theorem duties_later (g : GSem nD τ sig) (r : ℕ) (h : 1 ≤ r) : (sched σ m).duties g r = ∅ := by
  dsimp only [sched]; exact if_neg fun h' => absurd h'.1 (Nat.ne_of_gt h)
theorem dutiesOf_copy {k : Fin 3} (hk : k ≠ 0) : dutiesOf (semOf k) = {false} := by
  revert hk; fin_cases k <;> decide

omit [FloatOps F] in
theorem amount_bar (c : Dev nD) (d : Bool) : (sched σ m).amount (barCell c) 0 d = 1 := by dsimp only [sched, unitsOf]
omit [FloatOps F] in
theorem amount_copy (c : Dev nD) {k : Fin 3} (hk : k ≠ 0) (d : Bool) : (sched σ m).amount (cell c k) 0 d = units := by
  match k, hk with
  | 1, _ => dsimp only [sched, unitsOf]
  | 2, _ => dsimp only [sched, unitsOf]

omit [FloatOps F] in
theorem expect_bar (c : Dev nD) : (sched σ m).expect (barCell c) 0 = 2 := by
  unfold Schedule.expect Schedule.amountOf
  rw [Finset.sum_congr rfl fun d _ => amount_bar σ m c d, duties_first, Finset.sum_const]; rfl
omit [FloatOps F] in
theorem expect_copy (c : Dev nD) {k : Fin 3} (hk : k ≠ 0) : (sched σ m).expect (cell c k) 0 = units := by
  unfold Schedule.expect Schedule.amountOf
  rw [Finset.sum_congr rfl fun d _ => amount_copy σ m c hk d, duties_first, dutiesOf_copy hk, Finset.sum_singleton]

omit [FloatOps F] in
theorem handed_recv (c : Dev nD) (d : Bool) : (sched σ m).payload (recvCell c) 0 d = outHeld c (moved σ m c) := by
  dsimp only [sched, handed]; exact if_pos rfl
omit [FloatOps F] in
theorem handed_send (c : Dev nD) (d : Bool) : (sched σ m).payload (sendCell c) 0 d = xHeld m c := by
  dsimp only [sched, handed]; exact (if_neg (by decide)).trans (if_pos rfl)
omit [FloatOps F] in
theorem handed_first (c : Dev nD) : (sched σ m).payload (barCell c) 0 false = iprop(emp) := by dsimp only [sched, handed]
omit [FloatOps F] in
theorem handed_second (c : Dev nD) : (sched σ m).payload (barCell c) 0 true = lent σ c := by dsimp only [sched, handed]

omit [FloatOps F] in
/-- What a barrier's whole round hands over; -/
theorem round_bar (c : Dev nD) :
    bigSep ((sched σ m).duties (barCell c) 0 \ ∅) (fun d => (sched σ m).payload (barCell c) 0 d) = iprop(emp ∗ lent (F := F) σ c) := by
  rw [Finset.sdiff_empty, duties_first, ← handed_first σ m c, ← handed_second σ m c]
  exact bigSep_univ_eq_bigSepL [false, true] (by decide) (by decide) _
omit [FloatOps F] in
/-- and a copy semaphore's. -/
theorem round_copy (c : Dev nD) {k : Fin 3} (hk : k ≠ 0) :
    bigSep ((sched σ m).duties (cell c k) 0 \ ∅) (fun d => (sched σ m).payload (cell c k) 0 d) = (sched σ m).payload (cell c k) 0 false := by
  rw [Finset.sdiff_empty, duties_first, dutiesOf_copy hk, bigSep_singleton]

/-! ## What a device owes, and the order of the waits -/

/-- What `c` owes once it has signalled: the landing on `σ c`. -/
def owesCopy (c : Dev nD) : CellTallies nD τ sig Unit := tallyAt (recvCell (σ c)) () units
/-- What it owes before its second signal, to `σ.symm c`; -/
def owesSecond (c : Dev nD) : CellTallies nD τ sig Unit := owesCopy σ c + tallyAt (barCell (σ.symm c)) () 1
/-- and at the launch, before its first, to `σ c`. -/
def owesAll (c : Dev nD) : CellTallies nD τ sig Unit := owesSecond σ c + tallyAt (barCell (σ c)) () 1

/-- The cells whose waits are ordered, and the order: staging and send at 0, barrier at 1, receive at 2. -/
def ordered (g : GSem nD τ sig) : Finset Unit := if g.1.2 = .tc then {()} else ∅
def rank (g : GSem nD τ sig) (_ : Unit) : ℕ :=
  match g.2 with
  | .reg _ => 1
  | .dma q => if q = recvS then 2 else 0

theorem rank_recv (c : Dev nD) (u : Unit) : rank (recvCell c) u = 2 := by dsimp only [rank]; exact if_pos rfl
theorem ordered_ne (g : GSem nD τ sig) (h : g.1.2 ≠ .tc) : ordered g = ∅ := if_neg h
theorem mem_ordered (c : Dev nD) (s : SemLoc sig) (u : Unit) : u ∈ ordered ((c : Thread nD τ), s) := by
  unfold ordered; rw [if_pos rfl]; exact Finset.mem_singleton_self _

/-- A single debt is to the cell it names; -/
theorem tally_pos {g g' : GSem nD τ sig} {k : ℕ} {u : Unit} (h : 0 < tallyAt g () k g' u) : g' = g := by
  rw [tallyAt_apply] at h
  by_contra hn
  rw [if_neg fun h' => hn h'.1] at h
  exact Nat.lt_irrefl 0 h
/-- so the launch's debts are to three cells. -/
theorem owesAll_pos {c : Dev nD} {g : GSem nD τ sig} {u : Unit} (h : 0 < owesAll σ c g u) :
    g = recvCell (σ c) ∨ g = barCell (σ.symm c) ∨ g = barCell (σ c) := by
  unfold owesAll owesSecond owesCopy at h
  rw [Pi.add_apply, Finsupp.add_apply, Pi.add_apply, Finsupp.add_apply] at h
  rcases Nat.add_pos_iff_pos_or_pos.mp h with h | h
  · rcases Nat.add_pos_iff_pos_or_pos.mp h with h | h
    · exact .inl (tally_pos h)
    · exact .inr (.inl (tally_pos h))
  · exact .inr (.inr (tally_pos h))

omit [FloatOps F] in
/-- A wait on a cell of rank `n` is allowed to a device all of whose debts are to ordered cells of larger rank. -/
theorem mayWait_below (c : Dev nD) (s : SemLoc sig) (O : CellTallies nD τ sig Unit) (n : ℕ) (hs : rank ((c : Thread nD τ), s) () ≤ n)
    (hO : ∀ g u, 0 < O g u → ∃ (d : Dev nD) (s' : SemLoc sig), g = ((d : Thread nD τ), s') ∧ n < rank g u) :
    (levAts ordered rank : sProp 𝕄) ⊢ MayWait (c : Thread nD τ) s () O :=
  MayOwe.of_cut (L := ordered) (lev := rank) n
    (fun p hp => by rw [Finset.mem_singleton.mp hp]; exact mem_ordered c s _)
    (fun g u hg => by obtain ⟨d, s', rfl, -⟩ := hO g u hg; exact mem_ordered d s' u)
    (fun p hp => by rw [Finset.mem_singleton.mp hp]; exact hs)
    (fun g u hg => by obtain ⟨d, s', -, h⟩ := hO g u hg; exact h)

omit [FloatOps F] in
/-- The table's staging copy may be waited for owing everything, or nothing; -/
theorem mayWait_staging (c : Dev nD) (q : DmaSem sig) (hq : q ≠ recvS) (O : CellTallies nD τ sig Unit) (hO : O = owesAll σ c ∨ O = 0) :
    (levAts ordered rank : sProp 𝕄) ⊢ MayWait (c : Thread nD τ) (.dma q) () O := by
  rcases hO with rfl | rfl
  · refine mayWait_below c (.dma q) _ 0 (le_of_eq (if_neg hq)) fun g u hg => ?_
    rcases owesAll_pos σ hg with rfl | rfl | rfl
    · exact ⟨_, _, rfl, by rw [rank_recv]; decide⟩
    · exact ⟨_, _, rfl, Nat.one_pos⟩
    · exact ⟨_, _, rfl, Nat.one_pos⟩
  · rw [MayWait_zero]; iintro -; iempintro

omit [FloatOps F] in
/-- the barrier owing the landing. -/
theorem mayWait_bar (c : Dev nD) : (levAts ordered rank : sProp 𝕄) ⊢ MayWait (c : Thread nD τ) (.reg barS) () (owesCopy σ c) :=
  mayWait_below c _ _ 1 le_rfl fun g u hg => by
    obtain rfl := tally_pos hg
    exact ⟨_, _, rfl, by rw [rank_recv]; decide⟩

end Cert.Permute

end
-- ==== Proof.Body.lean ====
/-
# One device's part of the run

The kernel body on device `c`, under the protocol, when the staged table holds `σ`: it reads the table, signals its
receiver `σ c` and its sender `σ.symm c`, waits for both of its own, copies its block of `x` into the result array of
`σ c` and waits for its own copy and for the one into its own result array. It starts from its block of `x` as launched
and its result array at anything, and ends with its block of `x` unchanged and its result array at `moved`.
-/
module

public import proofs.«01_k».proof.Proof.Protocol
public import proofs.«01_k».proof.Proof.Gen.KernelIdeal.Points

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Route) (m : (ℓ : Loc nD τ sig) → Buf (Elt F) ℓ)

abbrev 𝒱₀ : Variants := Variants.none

/-! ## The table as staged -/

/-- Device `c`'s table, and its staged copy: the window's block of it. -/
abbrev table (c : Dev nD) : IVec S4 32 := m ((c : Thread nD τ).loc main_arg1)
def staged (c : Dev nD) : (cc0_stg0_0 : Ref sig .tc).ty.Contents (Elt F) :=
  (win0_0.blk (0 : Fin 1)).view.read (Elt F) (m ((c : Thread nD τ).loc main_arg1))

omit [FloatOps F] in
/-- The staged copy of a table that holds `σ` holds `σ`. -/
theorem staged_route {c : Dev nD} (h : HoldsRoute σ (table m c)) : HoldsRoute σ (staged m c) := fun i => by
  refine (h _).trans (congrArg (fun e => wordOf (σ e)) (Fin.ext ?_))
  revert i
  decide

section Words

variable {σ} {t : (cc0_stg0_0 : Ref sig .tc).ty.Contents (Elt F)} (ht : HoldsRoute σ t) (c : Dev nD)

/-- The words the body loads of a staged table `t` that holds `σ`: device `c`'s, and the four of the table. -/
abbrev ownWord (t : (cc0_stg0_0 : Ref sig .tc).ty.Contents (Elt F)) (c : Dev nD) : BitVec 32 := wordAt t (k0_off1 c) (k0_off1_inb c)
abbrev word0 (t : (cc0_stg0_0 : Ref sig .tc).ty.Contents (Elt F)) : BitVec 32 := wordAt t ![0] inb_S4_S1_0
abbrev word1 (t : (cc0_stg0_0 : Ref sig .tc).ty.Contents (Elt F)) : BitVec 32 := wordAt t ![1] inb_S4_S1_1
abbrev word2 (t : (cc0_stg0_0 : Ref sig .tc).ty.Contents (Elt F)) : BitVec 32 := wordAt t ![2] inb_S4_S1_2
abbrev word3 (t : (cc0_stg0_0 : Ref sig .tc).ty.Contents (Elt F)) : BitVec 32 := wordAt t ![3] inb_S4_S1_3

include ht

omit [FloatOps F] in
/-- Its own word names `σ c`, so passes the check on it, and the first signal and the copy go to `σ c`. -/
theorem ownWord_eq : ownWord t c = wordOf (σ c) := wordAt_route ht _ _ c (by revert c; decide)
omit [FloatOps F] in
theorem ownWord_chk : k0_chk1 (ownWord t c) := by rw [ownWord_eq ht]; exact chk1_word _
omit [FloatOps F] in
theorem first_dev (h : k0_chk1 (ownWord t c)) : (⟨k0_dev1 (ownWord t c), k0_dev1_lt _ h⟩ : Dev nD) = σ c :=
  Fin.ext ((congrArg k0_dev1 (ownWord_eq ht c)).trans (dev1_word _))
omit [FloatOps F] in
theorem copy_dev (h : k0_chk1 (ownWord t c)) : (⟨k0_dev3 (ownWord t c), k0_dev3_lt _ h⟩ : Dev nD) = σ c :=
  Fin.ext ((congrArg k0_dev3 (ownWord_eq ht c)).trans (dev3_word _))
omit [FloatOps F] in
/-- The second signal goes to `σ.symm c`. -/
theorem second_dev (h : k0_chk2 c (word0 t) (word1 t) (word2 t) (word3 t)) :
    (⟨k0_dev2 c (word0 t) (word1 t) (word2 t) (word3 t), k0_dev2_lt _ _ _ _ _ h⟩ : Dev nD) = σ.symm c := by
  have h0 : word0 t = wordOf (σ 0) := wordAt_route ht _ _ 0 rfl
  have h1 : word1 t = wordOf (σ 1) := wordAt_route ht _ _ 1 rfl
  have h2 : word2 t = wordOf (σ 2) := wordAt_route ht _ _ 2 rfl
  have h3 : word3 t = wordOf (σ 3) := wordAt_route ht _ _ 3 rfl
  refine Fin.ext ?_
  show k0_dev2 c (word0 t) (word1 t) (word2 t) (word3 t) = (σ.symm c).val
  rw [h0, h1, h2, h3]
  exact dev2_word σ c

end Words

/-! ## What a device holds of the protocol -/

/-- Every cell's invariant, under the names `K` it was allocated at, and that every cell is at its round. -/
def records (K : Dev nD × Fin 3 → ℕ) : sProp 𝕄 :=
  iprop((bigSep Finset.univ fun ck : Dev nD × Fin 3 => cellInv ER (sched σ m) (K ck) (cell ck.1 ck.2))
    ∗ bigSep Finset.univ fun ck : Dev nD × Fin 3 => reached ER (cell ck.1 ck.2) 0)

instance records_persistent (K : Dev nD × Fin 3 → ℕ) : BI.Persistent (records σ m K) := by unfold records; infer_instance

omit [FloatOps F] in
theorem inv_at (K : Dev nD × Fin 3 → ℕ) (c : Dev nD) (k : Fin 3) : records σ m K ⊢ cellInv ER (sched σ m) (K (c, k)) (cell c k) := by
  unfold records
  have h : (bigSep Finset.univ fun ck : Dev nD × Fin 3 => cellInv ER (sched σ m) (K ck) (cell ck.1 ck.2) : sProp 𝕄)
      ⊢ cellInv ER (sched σ m) (K (c, k)) (cell c k) := bigSep_elim (Finset.mem_univ (c, k))
  iintro ⟨H, -⟩
  iapply h
  iexact H
omit [FloatOps F] in
theorem reached_at (K : Dev nD × Fin 3 → ℕ) (c : Dev nD) (k : Fin 3) : records σ m K ⊢ reached ER (cell c k) 0 := by
  unfold records
  have h : (bigSep Finset.univ fun ck : Dev nD × Fin 3 => reached ER (cell ck.1 ck.2) 0 : sProp 𝕄)
      ⊢ reached ER (cell c k) 0 := bigSep_elim (Finset.mem_univ (c, k))
  iintro ⟨-, H⟩
  iapply h
  iexact H

/-- The right to wait on each of its own three cells. -/
def waitRights (c : Dev nD) : sProp 𝕄 :=
  iprop(atPos ER (barCell c) 0 ∅ 0 ∗ atPos ER (sendCell c) 0 ∅ 0 ∗ atPos ER (recvCell c) 0 ∅ 0)
/-- The four duties device `c` pays: its first signal, its second, its copy's landing, its copy's source read. -/
def payRights (c : Dev nD) : sProp 𝕄 :=
  iprop(dutyTok ER (barCell (σ c)) 0 false ∗ dutyTok ER (barCell (σ.symm c)) 0 true ∗ dutyTok ER (recvCell (σ c)) 0 false
    ∗ dutyTok ER (sendCell c) 0 false)
/-- What it may wait for: two signals, and one landing. -/
def waitCredits (c : Dev nD) : sProp 𝕄 := iprop(cred (tallyAt (barCell c) () 2) ∗ cred (tallyAt (recvCell c) () units))

def rights (c : Dev nD) : sProp 𝕄 := iprop(∃ K, records σ m K ∗ waitRights c ∗ payRights σ c)

/-- What device `c` enters the body with, and leaves it with. -/
def entry (c : Dev nD) : sProp 𝕄 :=
  iprop(rights σ m c ∗ waitCredits c ∗ levAts ordered rank ∗ xHeld m c ∗ ∃ f, outHeld c f)
def exit (c : Dev nD) : sProp 𝕄 :=
  iprop((semVal (barCell c) 0 ∗ semVal (sendCell c) 0 ∗ semVal (recvCell c) 0) ∗ xHeld m c ∗ outHeld c (moved σ m c))

/-- The proof data of the one window: the table's array, its staged copy, kept by the body. -/
def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => entry σ m c
    | ⟨_ + 1, _⟩ => exit σ m c
  q _ := fullShare
  owed t := match t with
    | ⟨0, _⟩ => owesAll σ c
    | ⟨_ + 1, _⟩ => 0

/-! ## The steps that cross devices -/

omit [FloatOps F] in
/-- A duty of a cell's kind is a duty of its round 0. -/
theorem due {c : Dev nD} {k : Fin 3} {d : Bool} (h : d ∈ dutiesOf (semOf k)) : d ∈ (sched σ m).duties (cell c k) 0 := by
  rw [duties_first]; exact h
omit [FloatOps F] in
/-- The one duty of a copy semaphore. -/
theorem due_copy {c : Dev nD} {k : Fin 3} (hk : k ≠ 0) : false ∈ (sched σ m).duties (cell c k) 0 :=
  due σ m (by rw [dutiesOf_copy hk]; exact Finset.mem_singleton_self _)

section Steps

variable (K : Dev nD × Fin 3 → ℕ) (c : Dev nD)

/-- The first signal, to a device `n` that is `σ c`: it pays the barrier duty `false` there. -/
theorem step_first (n : Dev nD) (hn : n = σ c) (W : Waits sig Unit) {α : Type} {Q : α → sProp 𝕄} {k : PUnit → Prog (TpuEff nD τ sig (Elt F) Λ₀ .tc) α} :
    iprop(records σ m K ∗ owes (c : Thread nD τ) (owesAll σ c) W ∗ dutyTok ER (barCell (σ c)) 0 false)
      ⊢ iprop((owes (c : Thread nD τ) (owesSecond σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS ((1 : ℕ) : Int)) k) Q) := by
  subst hn
  iintro ⟨#HR, HO, Ht⟩ Hk
  iapply (Rounds.wp_signal 𝒱₀ ER (sched σ m) (c : Thread nD τ) none (dst := (σ c : Thread nD τ)) (κ := K (σ c, 0)) (d := false)
      (due σ m (k := 0) (Finset.mem_univ _)) (amount_bar σ m (σ c) false) () (owesSecond σ c) rfl) $$ [HO Ht]
  · isplitr; · iapply (inv_at σ m K (σ c) 0); iexact HR
    isplitl [HO]; · iexact HO
    isplitl [Ht]; · iexact Ht
    isplitr; · rw [handed_first]; iempintro
    iapply (reached_at σ m K (σ c) 0); iexact HR
  iexact Hk

/-- The second signal, to a device `n` that is `σ.symm c`: it pays the barrier duty `true` there, with `c`'s result array. -/
theorem step_second (n : Dev nD) (hn : n = σ.symm c) (W : Waits sig Unit) {α : Type} {Q : α → sProp 𝕄} {k : PUnit → Prog (TpuEff nD τ sig (Elt F) Λ₀ .tc) α} :
    iprop(records σ m K ∗ owes (c : Thread nD τ) (owesSecond σ c) W ∗ dutyTok ER (barCell (σ.symm c)) 0 true ∗ ∃ f, outHeld c f)
      ⊢ iprop((owes (c : Thread nD τ) (owesCopy σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS ((1 : ℕ) : Int)) k) Q) := by
  subst hn
  iintro ⟨#HR, HO, Ht, Hout⟩ Hk
  iapply (Rounds.wp_signal 𝒱₀ ER (sched σ m) (c : Thread nD τ) none (dst := (σ.symm c : Thread nD τ)) (κ := K (σ.symm c, 0)) (d := true)
      (due σ m (k := 0) (Finset.mem_univ _)) (amount_bar σ m (σ.symm c) true) () (owesCopy σ c) rfl) $$ [HO Ht Hout]
  · isplitr; · iapply (inv_at σ m K (σ.symm c) 0); iexact HR
    isplitl [HO]; · iexact HO
    isplitl [Ht]; · iexact Ht
    isplitl [Hout]
    · rw [handed_second]; unfold lent; rw [Equiv.apply_symm_apply]
      isplitl [Hout]; · iexact Hout
      iapply (reached_at σ m K c 2); iexact HR
    iapply (reached_at σ m K (σ.symm c) 0); iexact HR
  iexact Hk

/-- The wait for 2 on the barrier: `σ c`'s result array comes with it. -/
theorem step_barrier (W : Waits sig Unit) {α : Type} {Q : α → sProp 𝕄} {k : PUnit → Prog (TpuEff nD τ sig (Elt F) Λ₀ .tc) α} :
    iprop(records σ m K ∗ levAts ordered rank ∗ cred (tallyAt (barCell c) () 2) ∗ owes (c : Thread nD τ) (owesCopy σ c) W ∗ atPos ER (barCell c) 0 ∅ 0)
      ⊢ iprop(((owes (c : Thread nD τ) (owesCopy σ c) (insert (SemLoc.reg barS, ()) W) ∗ atPos ER (barCell c) (0 + 1) ∅ 0 ∗ ∃ f, outHeld (σ c) f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS ((2 : ℕ) : Int)) k) Q) := by
  iintro ⟨#HR, #Hlev, Hc, HO, Hat⟩ Hk
  iapply (Rounds.wp_wait_rest_token 𝒱₀ ER (sched σ m) (c : Thread nD τ) none (κ := K (c, 0))
      (wpE_semWait_eq 𝒱₀ (c : Thread nD τ) none Set.univ) (Set.mem_univ _) () (O := owesCopy σ c) (W := W) (R := 0) (m := 0) (T := ∅)
      (by rw [expect_bar, Nat.zero_add])) $$ [Hc HO Hat]
  · isplitr; · iapply (inv_at σ m K c 0); iexact HR
    isplitl [Hc]; · iexact Hc
    isplitl [HO]; · iexact HO
    isplitr; · iapply (mayWait_bar σ c); iexact Hlev
    iexact Hat
  iintro ⟨HO, Hat, -, Hp⟩
  ihave Hp' := (Entails.of_eq (round_bar σ m c)) $$ Hp
  unfold lent
  icases Hp' with ⟨-, Hout, -⟩
  iapply Hk
  isplitl [HO]; · iexact HO
  isplitl [Hat] <;> iassumption

/-- What the copy leaves in the result array it writes: all of what it read. -/
theorem copied (d : Dev nD) (fd : Buf (Elt F) ((d : Thread nD τ).loc main_v1)) (fs : (main_arg0 : Ref sig .tc).ty.Contents (Elt F)) :
    (oM : Memref sig .tc .hbm S1x1024x1024 .f32).view.write (Elt F) fd ((xM : Memref sig .tc .hbm S1x1024x1024 .f32).view.read (Elt F) fs) Finset.univ = fs := by
  show (View.whole main_v1).write (Elt F) fd ((View.whole main_arg0).read (Elt F) fs) Finset.univ = fs
  rw [View.read_whole]
  exact View.write_whole_univ _ _ _

/-- The copy of `c`'s block into the result array of a device `n` that is `σ c`. -/
theorem step_copy (n : Dev nD) (hn : n = σ c) {hsc : (oM : Memref sig (Dev.tc n : Thread nD τ).2.kind .hbm S1x1024x1024 .f32).view.ref.isScScratch = false}
    {hsrc : (xM : Memref sig .tc .hbm S1x1024x1024 .f32).view.WordExact} {hdst : (oM : Memref sig .tc .hbm S1x1024x1024 .f32).view.WordExact}
    {hsem : DmaTarget.Typed .hbm (.dma recvS) (.remote (Dev.tc n : Thread nD τ) (oM : Memref sig .tc .hbm S1x1024x1024 .f32) (.dma sendS) hsc)}
    (W : Waits sig Unit) {α : Type} {Q : α → sProp 𝕄} {k : PUnit → Prog (TpuEff nD τ sig (Elt F) Λ₀ .tc) α} :
    iprop(records σ m K ∗ xHeld m c ∗ (∃ f, outHeld (σ c) f) ∗ owes (c : Thread nD τ) (owesCopy σ c) W
        ∗ dutyTok ER (sendCell c) 0 false ∗ dutyTok ER (recvCell (σ c)) 0 false)
      ⊢ iprop(((cred (tallyAt (sendCell c) () units) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  iintro ⟨#HR, Hx, ⟨%fd, Hout⟩, HO, HtS, HtV⟩ Hk
  iapply (Rounds.wp_send_pointsTo 𝒱₀ ER (sched σ m) (c : Thread nD τ) none (c' := (σ c : Thread nD τ)) (src := xM) (dst := oM) (κ₁ := K (c, 1)) (κ₂ := K (σ c, 2))
      (r₁ := 0) (r₂ := 0) (d₁ := false) (d₂ := false) (fs := given m c) (fd := fd) (q := fullShare)
      (due_copy σ m (c := c) (k := 1) (by decide)) (due_copy σ m (c := σ c) (k := 2) (by decide))
      () () units rfl (amount_copy σ m c (by decide) false) (amount_copy σ m (σ c) (by decide) false) 0 (by rw [zero_add]) (W := W)
      (by rw [handed_send]; unfold xHeld; rw [View.set_whole])
      (by rw [handed_recv]; unfold outHeld; rw [copied, View.set_whole, moved, Equiv.symm_apply_apply])) $$ [Hx Hout HO HtS HtV]
  · isplitr; · iapply (inv_at σ m K c 1); iexact HR
    isplitr; · iapply (inv_at σ m K (σ c) 2); iexact HR
    isplitl [Hx]; · unfold xHeld; rw [View.set_whole]; iexact Hx
    isplitl [Hout]; · unfold outHeld; rw [View.set_whole]; iexact Hout
    isplitl [HO]; · iexact HO
    isplitl [HtS]; · iexact HtS
    isplitr; · iapply (reached_at σ m K c 1); iexact HR
    isplitl [HtV]; · iexact HtV
    iapply (reached_at σ m K (σ c) 2); iexact HR
  iexact Hk

/-- The wait on a copy semaphore `k` of its own for a copy's units, owing nothing: its payload. -/
theorem step_wait {k : Fin 3} (hk : k ≠ 0) {sem : DmaSem sig} (hs : semOf k = .dma sem) {src dst : Memref sig .tc .hbm S1x1024x1024 .f32}
    (hN : dst.view.dmaCredit = units) {hsrc : src.view.WordExact} {hdst : dst.view.WordExact}
    (W : Waits sig Unit) {α : Type} {Q : α → sProp 𝕄} {k' : PUnit → Prog (TpuEff nD τ sig (Elt F) Λ₀ .tc) α} :
    iprop(records σ m K ∗ cred (tallyAt (cell c k) () units) ∗ owes (c : Thread nD τ) 0 W ∗ atPos ER (cell c k) 0 ∅ 0)
      ⊢ iprop(((owes (c : Thread nD τ) 0 (insert (semOf k, ()) W) ∗ atPos ER (cell c k) (0 + 1) ∅ 0 ∗ (sched σ m).payload (cell c k) 0 false)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sem src dst hsrc hdst) k') Q) := by
  iintro ⟨#HR, Hc, HO, Hat⟩ Hk
  have hw : ∀ R : PUnit → sProp 𝕄, wpE (defs₀ (F := F)) 𝒱₀ (c : Thread nD τ) none Set.univ (.waitDma2 sem src dst hsrc hdst) R
      = waitSpec (c : Thread nD τ) Set.univ (semOf k) units R := fun R => by rw [wpE_waitDma2_eq, hN, hs]
  iapply (Rounds.wp_wait_rest_token 𝒱₀ ER (sched σ m) (c : Thread nD τ) none (κ := K (c, k)) hw (Set.mem_univ _) () (O := 0) (W := W)
      (R := 0) (m := 0) (T := ∅) (by rw [Nat.zero_add, expect_copy σ m c hk])) $$ [Hc HO Hat]
  · isplitr; · iapply (inv_at σ m K c k); iexact HR
    isplitl [Hc]; · iexact Hc
    isplitl [HO]; · iexact HO
    isplitr; · rw [MayWait_zero]; iempintro
    iexact Hat
  iintro ⟨HO, Hat, -, Hp⟩
  ihave Hp' := (Entails.of_eq (round_copy σ m c hk)) $$ Hp
  iapply Hk
  isplitl [HO]; · iexact HO
  isplitl [Hat] <;> iassumption

omit [FloatOps F] in
/-- A cell past its round closes: its counter is zero, and the device's again. -/
theorem step_close (k : Fin 3) : iprop(records σ m K ∗ atPos ER (cell c k) (0 + 1) ∅ 0) ⊢ iprop(|={Set.univ}=> semVal (cell c k) 0) := by
  iintro ⟨#HR, Hat⟩
  iapply (Rounds.cell_close ER (sched σ m) (Set.mem_univ (K (c, k))) (fun h => h) (R := 0 + 1) (duties_later σ m (cell c k)))
  isplitr; · iapply (inv_at σ m K c k); iexact HR
  iexact Hat

end Steps

/-! ## The body -/

/-- The staged table of `c`, at contents `X`. -/
def tableHeld (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- What the body enters with, over one assignment `K` of names, and ends with. -/
def bodyPre (K : Dev nD × Fin 3 → ℕ) (c : Dev nD) : sProp 𝕄 :=
  iprop((records σ m K ∗ waitRights c ∗ payRights σ c) ∗ waitCredits c ∗ levAts ordered rank ∗ xHeld m c ∗ (∃ f, outHeld c f)
    ∗ (dats σ m 0 c).owesAt () (Gen.t0_0 : Fin cfg0.N).castSucc
    ∗ ∃ d, tableHeld c ((dats σ m 0 c).before (0 : Fin 1) Gen.t0_0 d))
def bodyPost (c : Dev nD) : sProp 𝕄 :=
  iprop(exit σ m c ∗ (dats σ m 0 c).owesAt () (Gen.t0_0 : Fin cfg0.N).succ
    ∗ tableHeld c ((dats σ m 0 c).after (0 : Fin 1) Gen.t0_0))

/-- The body, on every device, when every table holds `σ`. -/
theorem body_runs (hσ : ∀ c : Dev nD, HoldsRoute σ (table m c)) (K : Dev nD × Fin 3 → ℕ) (c : Dev nD) (Kt : PUnit → sProp 𝕄) :
    iprop(bodyPre σ m K c ∗ (bodyPost σ m c -∗ Kt ⟨⟩)) ⊢ wp frame (wpE (defs₀ (F := F)) 𝒱₀ (c : Thread nD τ) none) Set.univ
      (cc0_body (Memref.whole cc0_stg0_0) (Memref.isWhole_whole _) (Memref.whole main_arg0) (Memref.isWhole_whole _)
        (Memref.whole main_v1) (Memref.isWhole_whole _) cc0_scratch0 cc0_scratch1) Kt := by
  simp only [cc0_body_eq_skeleton]
  unfold cc0_body_skel
  simp only [semSignalWord, semWaitWord, smemLoad, smemLoadElt, Prog.lift, Prog.bind_op, Prog.bind_ret, Prog.pure_eq_ret, Prog.bind_assoc, wp_deviceId]
  unfold bodyPre waitRights payRights waitCredits tableHeld
  iintro ⟨⟨⟨#HR, ⟨HatB, HatS, HatV⟩, HtB, HtB', HtV, HtS⟩, ⟨HcB, HcV⟩, #Hlev, Hx, Hout, ⟨%W, %hW, HO⟩, %d0, %ft, %hft, Htab⟩, Hk⟩
  have hft : ft = staged m c := by
    rw [hft]; unfold Dat.before; rw [if_pos (fetch0_0 Gen.t0_0)]; rfl
  subst hft
  rw [show (dats σ m 0 c).owed (Gen.t0_0 : Fin cfg0.N).castSucc = owesAll σ c from rfl]
  have ht := staged_route σ m (hσ c)
  iapply (wp_load_rect 𝒱₀ (c : Thread nD τ) none Set.univ (m := Memref.whole cc0_stg0_0) (r := Rect.unit (s := S4) (k0_off1 c) S1.size (k0_off1_inb c)) (Finset.subset_univ _)) $$ Htab; iintro Htab
  simp only [wp_assume_of _ _ _ _ (d := k0_chk1.dec _) (ownWord_chk ht c)]
  iapply (wp_load_rect 𝒱₀ (c : Thread nD τ) none Set.univ (m := Memref.whole cc0_stg0_0) (r := Rect.unit (s := S4) ![0] S1.size inb_S4_S1_0) (Finset.subset_univ _)) $$ Htab; iintro Htab
  iapply (wp_load_rect 𝒱₀ (c : Thread nD τ) none Set.univ (m := Memref.whole cc0_stg0_0) (r := Rect.unit (s := S4) ![1] S1.size inb_S4_S1_1) (Finset.subset_univ _)) $$ Htab; iintro Htab
  iapply (wp_load_rect 𝒱₀ (c : Thread nD τ) none Set.univ (m := Memref.whole cc0_stg0_0) (r := Rect.unit (s := S4) ![2] S1.size inb_S4_S1_2) (Finset.subset_univ _)) $$ Htab; iintro Htab
  iapply (wp_load_rect 𝒱₀ (c : Thread nD τ) none Set.univ (m := Memref.whole cc0_stg0_0) (r := Rect.unit (s := S4) ![3] S1.size inb_S4_S1_3) (Finset.subset_univ _)) $$ Htab; iintro Htab
  have hchk := k0_chk2_all c (word0 (staged m c)) (word1 (staged m c)) (word2 (staged m c)) (word3 (staged m c))
  simp only [wp_assume_of _ _ _ _ (d := k0_chk2.dec _ _ _ _ _) hchk]
  -- the two signals
  iapply (step_first σ m K c _ (first_dev ht c (ownWord_chk ht c)) W) $$ [HO HtB]
  · isplitr; · iexact HR
    isplitl [HO] <;> iassumption
  iintro HO
  iapply (step_second σ m K c _ (second_dev ht c hchk) W) $$ [HO HtB' Hout]
  · isplitr; · iexact HR
    isplitl [HO]; · iexact HO
    isplitl [HtB'] <;> iassumption
  iintro HO
  -- the wait for both of its own
  iapply (step_barrier σ m K c W) $$ [HcB HO HatB]
  · isplitr; · iexact HR
    isplitr; · iexact Hlev
    isplitl [HcB]; · iexact HcB
    isplitl [HO] <;> iassumption
  iintro ⟨HO, HatB, Hout⟩
  -- the copy, and the two waits on it
  iapply (step_copy σ m K c _ (copy_dev ht c (ownWord_chk ht c)) (insert (SemLoc.reg barS, ()) W)) $$ [Hx Hout HO HtS HtV]
  · isplitr; · iexact HR
    isplitl [Hx]; · iexact Hx
    isplitl [Hout]; · iexact Hout
    isplitl [HO]; · iexact HO
    isplitl [HtS] <;> iassumption
  iintro ⟨HcS, HO⟩
  iapply (step_wait σ m K c (k := 1) (by decide) rfl units_source (insert (SemLoc.reg barS, ()) W)) $$ [HcS HO HatS]
  · isplitr; · iexact HR
    isplitl [HcS]; · iexact HcS
    isplitl [HO] <;> iassumption
  iintro ⟨HO, HatS, Hx⟩
  iapply (step_wait σ m K c (k := 2) (by decide) rfl rfl (insert (SemLoc.dma sendS, ()) (insert (SemLoc.reg barS, ()) W))) $$ [HcV HO HatV]
  · isplitr; · iexact HR
    isplitl [HcV]; · iexact HcV
    isplitl [HO] <;> iassumption
  iintro ⟨HO, HatV, Hout⟩
  -- the three cells close
  imod (step_close σ m K c 0) $$ [HatB] with HzB
  · isplitr; · iexact HR
    iexact HatB
  imod (step_close σ m K c 1) $$ [HatS] with HzS
  · isplitr; · iexact HR
    iexact HatS
  imod (step_close σ m K c 2) $$ [HatV] with HzV
  · isplitr; · iexact HR
    iexact HatV
  ihave Hx := (Entails.of_eq (handed_send σ m c false)) $$ Hx
  ihave Hout := (Entails.of_eq (handed_recv σ m c false)) $$ Hout
  rw [wp_ret]; imodintro
  iapply Hk
  unfold bodyPost exit tableHeld Dat.owesAt Pipeline.owesWithin
  rw [show (dats σ m 0 c).owed (Gen.t0_0 : Fin cfg0.N).succ = 0 from rfl]
  isplitl [HzB HzS HzV Hx Hout]
  · isplitl [HzB HzS HzV]
    · isplitl [HzB]; · iexact HzB
      isplitl [HzS] <;> iassumption
    isplitl [Hx] <;> iassumption
  isplitl [HO]
  · iexists (insert (SemLoc.dma recvS, ()) (insert (SemLoc.dma sendS, ()) (insert (SemLoc.reg barS, ()) W)))
    isplitr; · ipureintro; exact fun _ _ => Or.inl trivial
    iexact HO
  iexists _; isplitr; · (ipureintro; rfl)
  iexact Htab

/-- The body's obligation to the pipeline on device `c`. -/
theorem body_obligation (hσ : ∀ c : Dev nD, HoldsRoute σ (table m c)) (c : Dev nD) :
    BodyObligation (dats (F := F) σ m 0 c) (defs₀ (F := F)) 𝒱₀ () Set.univ := fun t => by
  rw [fin_N0 t, bigSep_W0, bigSep_W0]
  simp only [owns_whole_eq]
  show iprop(entry σ m c ∗ (dats σ m 0 c).owesAt () (Gen.t0_0 : Fin cfg0.N).castSucc
      ∗ ∃ d, tableHeld c ((dats σ m 0 c).before (0 : Fin 1) Gen.t0_0 d))
    ⊢ wp frame (wpE (defs₀ (F := F)) 𝒱₀ c none) Set.univ
      (cc0_body (Memref.whole cc0_stg0_0) (Memref.isWhole_whole _) (Memref.whole main_arg0) (Memref.isWhole_whole _)
        (Memref.whole main_v1) (Memref.isWhole_whole _) cc0_scratch0 cc0_scratch1) (fun _ => bodyPost σ m c)
  unfold entry rights
  iintro ⟨⟨⟨%K, HK⟩, Hcr, Hlev, Hx, Hout⟩, HO, Htab⟩
  iapply (body_runs σ m hσ K c fun _ => bodyPost σ m c)
  unfold bodyPre
  isplitr []
  · isplitl [HK]; · iexact HK
    isplitl [Hcr]; · iexact Hcr
    isplitl [Hlev]; · iexact Hlev
    isplitl [Hx]; · iexact Hx
    isplitl [Hout]; · iexact Hout
    isplitl [HO] <;> iassumption
  · iintro H; iexact H

end Cert.Permute

end
-- ==== Proof.Dealing.lean ====
/-
# What the launch hands out

The protocol's rights are made once, at the launch, all devices together: every cell's invariant from its counter at
zero, the right to wait on a cell to the cell's own device, and the token of a duty to the device that pays it. The
signals and the landings that are owed at the launch give each device the credits it waits with: two signals on its
barrier, one landing on its receive semaphore.
-/
module

public import proofs.«01_k».proof.Proof.Body

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Route) (m : (ℓ : Loc nD τ sig) → Buf (Elt F) ℓ)

/-! ## The tokens -/

/-- The duties of device `c`'s own cells: the barrier's two, and one for each copy semaphore. -/
abbrev dutyAt (cj : Dev nD × Fin 4) : GSem nD τ sig × ℕ × Bool :=
  match cj.2 with
  | 0 => (barCell cj.1, 0, false)
  | 1 => (barCell cj.1, 0, true)
  | 2 => (sendCell cj.1, 0, false)
  | 3 => (recvCell cj.1, 0, false)

theorem dutyAt_injective : Function.Injective dutyAt := by
  have hdev : ∀ cj : Dev nD × Fin 4, (dutyAt cj).1.1.1 = cj.1 := fun ⟨c, j⟩ => by fin_cases j <;> rfl
  have hkind : ∀ j j' : Fin 4, ∀ c : Dev nD, dutyAt (c, j) = dutyAt (c, j') → j = j' := by decide
  rintro ⟨c, j⟩ ⟨c', j'⟩ h
  obtain rfl : c = c' := (hdev (c, j)).symm.trans ((congrArg (fun x : GSem nD τ sig × ℕ × Bool => x.1.1.1) h).trans (hdev (c', j')))
  rw [hkind j j' c h]

/-- All cells, and all duties. -/
def allCells : Finset (GSem nD τ sig) := Finset.univ.map ⟨_, cell_injective⟩
def allDuties : Finset (GSem nD τ sig × ℕ × Bool) := Finset.univ.map ⟨_, dutyAt_injective⟩

/-- The tokens of the duties of `c`'s own cells. -/
def tokens (c : Dev nD) : sProp 𝕄 :=
  iprop(dutyTok ER (barCell c) 0 false ∗ dutyTok ER (barCell c) 0 true ∗ dutyTok ER (sendCell c) 0 false ∗ dutyTok ER (recvCell c) 0 false)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem over_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl
omit [FloatOps F] in
theorem over_duties : bigSep allDuties (fun x => (dutyTok ER x.1 x.2.1 x.2.2 : sProp 𝕄)) = bigSep Finset.univ tokens := by
  unfold allDuties; rw [bigSep_map, bigSep_univ_prod]
  exact bigSep_congr fun c _ => by unfold tokens; rw [bigSep_four]; rfl

/-- What the launch makes for `c`'s own cells: their states, positions, rounds reached, tokens; -/
def minted (c : Dev nD) : sProp 𝕄 :=
  iprop((bigSep Finset.univ fun k : Fin 3 => roundState ER (sched σ m) (cell c k) 0) ∗ (bigSep Finset.univ fun k : Fin 3 => atPos ER (cell c k) 0 ∅ 0)
    ∗ (bigSep Finset.univ fun k : Fin 3 => reached ER (cell c k) 0) ∗ tokens c)
/-- and the same with the invariants allocated. -/
def opened (c : Dev nD) : sProp 𝕄 :=
  iprop((bigSep Finset.univ fun k : Fin 3 => iprop(∃ κ : ℕ, cellInv ER (sched σ m) κ (cell c k))) ∗ (bigSep Finset.univ fun k : Fin 3 => atPos ER (cell c k) 0 ∅ 0)
    ∗ (bigSep Finset.univ fun k : Fin 3 => reached ER (cell c k) 0) ∗ tokens c)

omit [FloatOps F] in
theorem mint : BI.own (ER (initOf allCells allDuties)) ⊢ (|==> bigSep Finset.univ (minted σ m) : sProp 𝕄) := by
  iintro HX
  imod (Rounds.fund ER (sched σ m) allCells allDuties) $$ HX with ⟨Hst, Hre, Hat, Htok⟩
  imodintro
  ihave Hst := (Entails.of_eq (over_cells fun g => roundState ER (sched σ m) g 0)) $$ Hst
  ihave Hat := (Entails.of_eq (over_cells fun g => atPos ER g 0 ∅ 0)) $$ Hat
  ihave Hre := (Entails.of_eq (over_cells fun g => reached ER g 0)) $$ Hre
  ihave Htok := (Entails.of_eq over_duties) $$ Htok
  unfold minted; simp only [bigSep_sep']
  isplitl [Hst]; · iexact Hst
  isplitl [Hat]; · iexact Hat
  isplitl [Hre] <;> iassumption

/-! ## The counters -/

/-- The kernel's own two semaphores, in the order of its scratch operands. -/
abbrev ownSem : Fin 2 → SemLoc sig := fun | 0 => .dma sendS | 1 => .dma recvS

theorem ownSem_facts : Pipeline.OwnSemFacts cfg0.spec ownSem := by decide

abbrev ownZero (c : Dev nD) : sProp 𝕄 := Pipeline.ownSems0 (Ix := Unit) (Name := ℕ) (U := UU) (Lvl := ℕ) (Val := Elt F) (τ := τ) ownSem c

omit [FloatOps F] in
theorem ownZero_eq (c : Dev nD) : (ownZero c : sProp 𝕄) = iprop(semVal (sendCell c) 0 ∗ semVal (recvCell c) 0) := by
  unfold ownZero; rw [Pipeline.ownSems0_eq_of_list c ownSem [0, 1] (by decide) (by decide)]; rfl
omit [FloatOps F] in
/-- The barrier's is the one semaphore no kernel owns. -/
theorem unowned_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- One device's cells open: each counter at zero goes into its cell's invariant. -/
theorem open_cells (c : Dev nD) : iprop(ownZero c ∗ unscopedSems0 c ∗ minted σ m c) ⊢ (|={Set.univ}=> opened σ m c : sProp 𝕄) := by
  have halloc : iprop((bigSep Finset.univ fun k : Fin 3 => semVal (cell c k) 0) ∗ bigSep Finset.univ fun k : Fin 3 => roundState ER (sched σ m) (cell c k) 0)
      ⊢ (|={Set.univ}=> bigSep Finset.univ fun k : Fin 3 => iprop(∃ κ : ℕ, cellInv ER (sched σ m) κ (cell c k)) : sProp 𝕄) := by
    rw [← bigSep_sep']
    exact (bigSep_mono fun k _ => (Rounds.body_intro ER (sched σ m) (cell c k)).trans inv_alloc).trans (bigSep_fupd _ _)
  unfold minted opened
  rw [ownZero_eq, unowned_eq]
  iintro ⟨⟨HS, HV⟩, HB, Hst, Hrest⟩
  imod halloc $$ [HS HV HB Hst] with HI
  · isplitr [Hst]
    · rw [bigSep_three]
      isplitl [HB]; · iexact HB
      isplitl [HS] <;> iassumption
    iexact Hst
  imodintro
  isplitl [HI] <;> iassumption

/-! ## Everybody's rights -/

omit [FloatOps F] in
/-- Dealing the tokens: a barrier's first to its sender, its second to its receiver, a landing's to its sender. -/
theorem deal : (bigSep Finset.univ fun c : Dev nD => (tokens c : sProp 𝕄)) ⊢ bigSep Finset.univ fun c : Dev nD => payRights σ c := by
  unfold tokens payRights
  simp only [bigSep_sep']
  rw [bigSep_univ_equiv σ (fun c : Dev nD => (dutyTok ER (barCell c) 0 false : sProp 𝕄)),
    bigSep_univ_equiv σ.symm (fun c : Dev nD => (dutyTok ER (barCell c) 0 true : sProp 𝕄)),
    bigSep_univ_equiv σ (fun c : Dev nD => (dutyTok ER (recvCell c) 0 false : sProp 𝕄))]
  iintro ⟨H1, H2, H3, H4⟩
  isplitl [H1]; · iexact H1
  isplitl [H2]; · iexact H2
  isplitl [H4] <;> iassumption

omit [FloatOps F] in
theorem everybody : (bigSep Finset.univ (opened σ m) : sProp 𝕄) ⊢ bigSep Finset.univ (rights σ m) := by
  have hone (K : Dev nD × Fin 3 → ℕ) (c : Dev nD) : iprop(records σ m K ∗ (waitRights c ∗ payRights σ c)) ⊢ (rights σ m c : sProp 𝕄) := by
    unfold rights; iintro H; iexists K; iexact H
  have hall (K : Dev nD × Fin 3 → ℕ) : iprop(records σ m K ∗ bigSep Finset.univ fun c : Dev nD => iprop(waitRights c ∗ payRights σ c))
      ⊢ (bigSep Finset.univ (rights σ m) : sProp 𝕄) :=
    (sep_mono_left (BI.bigSep_of_persistent Finset.univ (records σ m K))).trans (by rw [← bigSep_sep']; exact bigSep_mono fun c _ => hone K c)
  have hwait : (bigSep Finset.univ fun c : Dev nD => bigSep Finset.univ fun k : Fin 3 => (atPos ER (cell c k) 0 ∅ 0 : sProp 𝕄))
      ⊢ bigSep Finset.univ fun c : Dev nD => waitRights c :=
    bigSep_mono fun c _ => show _ ⊢ waitRights c from Entails.of_eq (by unfold waitRights; rw [bigSep_three])
  unfold opened
  simp only [bigSep_sep']
  rw [← bigSep_univ_prod (fun ck : Dev nD × Fin 3 => iprop(∃ κ : ℕ, cellInv ER (sched σ m) κ (cell ck.1 ck.2))),
    ← bigSep_univ_prod (fun ck : Dev nD × Fin 3 => (reached ER (cell ck.1 ck.2) 0 : sProp 𝕄))]
  iintro ⟨HI, Hat, #HR, Htok⟩
  ihave HK := (BI.bigSep_exists_pi Finset.univ (fun (ck : Dev nD × Fin 3) (κ : ℕ) => (cellInv ER (sched σ m) κ (cell ck.1 ck.2) : sProp 𝕄))) $$ HI
  icases HK with ⟨%K, #HI⟩
  ihave Hw := hwait $$ Hat
  ihave Hp := (deal (F := F) σ) $$ Htok
  iapply (hall K)
  isplitr
  · unfold records; isplitl; · iexact HI
    iexact HR
  · rw [bigSep_sep']
    isplitl [Hw] <;> iassumption

omit [FloatOps F] in
/-- The step all devices take together: their counters at zero and what was minted become everybody's rights. -/
theorem hand_out : (bigSep Finset.univ fun c => iprop(ownZero c ∗ unscopedSems0 c ∗ minted σ m c) : sProp 𝕄)
    ⊢ |={Set.univ}=> bigSep Finset.univ (rights σ m) :=
  ((bigSep_mono fun c _ => open_cells σ m c).trans (bigSep_fupd _ _)).trans (BI.fupd_mono (everybody σ m))

/-! ## The credits -/

/-- A debt to a cell of `d`, read at the same cell of `c`. -/
theorem tally_same (c d : Dev nD) (k : Fin 3) (n : ℕ) : tallyAt (cell d k) () n (cell c k) () = if c = d then n else 0 := by
  rw [tallyAt_apply]
  exact if_congr ⟨fun h => (cell_eq_iff.mp h.1).1, fun h => ⟨by rw [h], rfl⟩⟩ rfl rfl
/-- A debt to another kind of cell is none here. -/
theorem tally_other (c d : Dev nD) {k k' : Fin 3} (hk : k' ≠ k) (n : ℕ) : tallyAt (cell d k) () n (cell c k') () = 0 := by
  rw [tallyAt_apply, if_neg fun h => hk (cell_eq_iff.mp h.1).2]

theorem sends_iff (c d : Dev nD) : c = σ d ↔ d = σ.symm c := by rw [Equiv.eq_symm_apply]; exact eq_comm
theorem sends_back_iff (c d : Dev nD) : c = σ.symm d ↔ d = σ c := by rw [Equiv.eq_symm_apply]; exact eq_comm

/-- What `d` owes `c`'s barrier: a signal if it is `c`'s receiver, and one if it is its sender. -/
theorem owed_bar (d c : Dev nD) : owesAll σ d (barCell c) () = (if d = σ c then 1 else 0) + (if d = σ.symm c then 1 else 0) := by
  unfold owesAll owesSecond owesCopy
  rw [Pi.add_apply, Finsupp.add_apply, Pi.add_apply, Finsupp.add_apply, tally_other c (σ d) (by decide), tally_same, tally_same, Nat.zero_add]
  exact congrArg₂ (· + ·) (if_congr (sends_back_iff σ c d) rfl rfl) (if_congr (sends_iff σ c d) rfl rfl)
/-- What `d` owes `c`'s receive semaphore: a landing if it is its sender. -/
theorem owed_recv (d c : Dev nD) : owesAll σ d (recvCell c) () = if d = σ.symm c then units else 0 := by
  unfold owesAll owesSecond owesCopy
  rw [Pi.add_apply, Finsupp.add_apply, Pi.add_apply, Finsupp.add_apply, tally_same, tally_other c _ (by decide), tally_other c _ (by decide)]
  exact if_congr (sends_iff σ c d) rfl rfl

/-- So in all two signals on each barrier, -/
theorem credit_bar (c : Dev nD) :
    tallyOn (barCell c) (launchCredit (Pipeline.owing (owesAll σ)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_add_distrib,
    Finset.sum_ite_eq' Finset.univ (σ c) fun _ => 1, Finset.sum_ite_eq' Finset.univ (σ.symm c) fun _ => 1, if_pos (Finset.mem_univ _), if_pos (Finset.mem_univ _)]
/-- and one landing on each receive semaphore. -/
theorem credit_recv (c : Dev nD) :
    tallyOn (recvCell c) (launchCredit (Pipeline.owing (owesAll σ)) 0 (recvCell c)) = (tallyAt (recvCell c) () units : CellTallies nD τ sig Unit) := by
  unfold tallyAt; refine congrArg _ (Finsupp.ext fun u => ?_); cases u
  rw [Pipeline.launchCredit_owing, Finsupp.single_eq_same, Finset.sum_congr rfl fun d _ => owed_recv σ d c,
    Finset.sum_ite_eq' Finset.univ (σ.symm c) fun _ => units, if_pos (Finset.mem_univ _)]

omit [FloatOps F] in
theorem credits (c : Dev nD) : (Pipeline.launchCred (owesAll σ) c : sProp 𝕄) ⊢ waitCredits c := by
  unfold Pipeline.launchCred waitCredits
  rw [bigSep_univ_at _ (SemLoc.reg barS), credit_bar, ← credit_recv σ]
  exact sep_mono_right (bigSep_elim (Finset.mem_erase.mpr ⟨by decide, Finset.mem_univ _⟩))

end Cert.Permute

end
-- ==== Proof.Launch.lean ====
/-
# The run of the program

From any memory in which every device's table holds the permutation `σ`, with every counter at zero: every run of the
program on the four devices ends, with each result array at the block of the device routed to it, the arguments as they
were and every counter at zero. Stated for any float values, as the kernel computes with none.
-/
module

public import proofs.«01_k».proof.Proof.Dealing
public import Idealize.ShloMosaic.Lib.Pipeline.CollectiveSegs

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Route) (m : (ℓ : Loc nD τ sig) → Buf (Elt F) ℓ) (ρ : Dev nD → PrngReg)

/-- What device `c` is left with: its barrier's counter, and its two arrays. -/
def left (c : Dev nD) : sProp 𝕄 := iprop(unscopedSems0 c ∗ xHeld m c ∗ outHeld c (moved σ m c))

theorem entry_intro (c : Dev nD) :
    iprop(Pipeline.unscopedRestP Pipeline.Prefetch.none cfg0.spec c (fun b => m ((c : Thread nD τ).loc b)) ∗ levAts ordered rank
        ∗ Pipeline.launchCred (owesAll σ) c ∗ prngReg c (ρ c) ∗ rights σ m c)
      ⊢ |={Set.univ}=> iprop(entry σ m c ∗ emp) := by
  rw [Pipeline.unscopedRestP_none, unscopedRest0_eq]
  iintro ⟨⟨Hx, Hout⟩, Hlev, Hcr, -, HG⟩
  ihave Hc := (credits (F := F) σ c) $$ Hcr
  imodintro
  unfold entry xHeld outHeld
  isplitl
  · isplitl [HG]; · iexact HG
    isplitl [Hc]; · iexact Hc
    isplitl [Hlev]; · iexact Hlev
    isplitl [Hx]; · iexact Hx
    iexists _; iexact Hout
  · iempintro

theorem entry_in (c : Dev nD) :
    iprop(entry σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = entry σ m c from rfl]
  iintro ⟨H, -, -⟩; iexact H

theorem exit_out (c : Dev nD) :
    (dats σ m 0 c).Φ (Fin.last cfg0.N) ⊢ iprop(left σ m c ∗ Pipeline.ownSems0 ownSem c ∗ Pipeline.scopedRest cfg0.spec c) := by
  rw [show (dats σ m 0 c).Φ (Fin.last cfg0.N) = exit σ m c from rfl, scopedRest0_eq]
  unfold exit left
  rw [unowned_eq, show (Pipeline.ownSems0 ownSem c : sProp 𝕄) = _ from ownZero_eq c]
  iintro ⟨⟨HB, HS, HV⟩, Hx, Hout⟩
  isplitl [HB Hx Hout]
  · isplitl [HB]; · iexact HB
    isplitl [Hx] <;> iassumption
  isplitl [HS HV]
  · isplitl [HS] <;> iassumption
  iempintro

theorem staging_waits (c : Dev nD) : (levAts ordered rank : sProp 𝕄) ⊢ Pipeline.cellsWaits cfgs (dats σ m) () 0 c :=
  Pipeline.cellsWaits_intro cfgs (dats σ m) () 0 c fun w s t =>
    mayWait_staging σ c _ (by fin_cases w <;> fin_cases s <;> decide) _ (by
      rcases t with ⟨_ | _, ht⟩
      · exact Or.inl rfl
      · exact Or.inr rfl)

theorem full_share (c : Dev nD) (w : Fin cfg0.W) : (dats σ m 0 c).share w = fullShare := by unfold Dat.share; split <;> rfl

def u₀ : UU := (initOf (Pipeline.cells cfgs cellOf_inj) (Pipeline.launchToks cfgs cellOf_inj), initOf allCells allDuties)

/-- What a final memory is read to hold: `c`'s two arrays, and its unowned counter. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = given m c ∧ s.mem ((c : Thread nD τ).loc main_v1) = moved σ m c

/-- What holds of a final state. -/
def Moved (r : PUnit × MemSt nD τ sig (Elt F)) : Prop :=
  ∀ c : Dev nD, r.2.mem ((c : Thread nD τ).loc main_v1) = moved σ m c
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
theorem run_main (hσ : ∀ c : Dev nD, HoldsRoute σ (table m c)) :
    θ_run defs (onTc (τ := τ) (main (F := F))) (⟨m, fun _ => 0, ρ⟩ : MemSt nD τ sig (Elt F)) (fun r => Moved σ m r ∧ r.2.sem = fun _ => 0) :=
  Pipeline.θ_run_region_owing_glob_pf (fun p => (cfgs p).toPCfg) (fun p => (cfgs p).toPCfg_adm) (dats σ m) () cellOf_inj (0 : Fin 1)
    winFacts0.to₀ ownSem_facts (Pipeline.PreFacts.none _) EP defs₀ 𝒱₀ m ρ main
    (hmain := fun _ => rfl)
    (hbody := body_obligation σ m hσ) (hne := fun w => by fin_cases w <;> exact Nat.succ_pos _) (harr := arr_whole0) (hstage := stage_whole0)
    (hshare := full_share σ m) (hdistinct := winFacts0.arr_inj)
    (O₀ := owesAll σ) (howed₀ := fun _ => rfl) (howedN := fun _ => rfl)
    (L := ordered) (lv := rank) (hL := ordered_ne) (hwaits := staging_waits σ m)
    (G := minted σ m) (G' := rights σ m) (u₀ := u₀)
    (hu₀ := by
      unfold u₀
      iintro Hu
      ihave H := (ownU_pair _ _) $$ Hu
      icases H with ⟨HP, HX⟩
      imod (mint σ m) $$ HX with HG
      imodintro
      isplitl [HP] <;> iassumption)
    (hglob := hand_out σ m)
    (hA := fun _ _ => rfl) (hpf := fun _ k => k.elim0)
    (X := entry σ m) (Y := left σ m) (Z := fun _ => iprop(emp))
    (hX := entry_intro σ m ρ) (hin := entry_in σ m) (hout := exit_out σ m)
    (QY := Left σ m)
    (hY := fun c s' => by
      unfold left xHeld outHeld
      iintro ⟨⟨Hu, Hx, Hout⟩, -, HSI⟩
      icombine HSI Hx gives %hx
      icombine HSI Hout gives %hout
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ hx, Buf.eq_of_forall_mem_univ hout⟩
      iexact HSI)
    (hQ := fun _ h hs => ⟨fun c => ⟨(h c).2.2.2.2, (h c).2.2.2.1, ((h c).1 0).trans ((dats σ m 0 c).arrAt_in (0 : Fin 1) rfl _)⟩,
      sem_eq_zero hs fun c => (h c).2.2.1⟩)

end Cert.Permute

end
-- ==== Proof.Reference.lean ====
/-
# What the reference computes

The reference sorts the table together with the positions 0, 1, 2, 3 (`argsort`), adds 4 to the negative words, of which
there are none, and gathers the rows of the whole array at the words so obtained. Of a table that holds the permutation
`σ` the sorted positions are the values of the inverse permutation, so row `c` of the result is row `σ.symm c` of the
array. That row is the block that the kernel's run leaves on device `c`.
-/
module

public import proofs.«01_k».proof.Proof.Table
public import proofs.«01_k».proof.Proof.Gen.ReferenceIdeal
public import proofs.«01_k».proof.Proof.Gen.ReferenceIdeal.Run
public import Idealize.ShloMosaic.Lib.SortFacts
public import Idealize.ShloMosaic.Lib.Layout
public import Idealize.ShloMosaic.Lib.Pipeline.Value

@[expose] public section

noncomputable section

namespace Cert.Permute

open Cert.ReferenceIdeal Cert.ReferenceIdeal.Gen
open Idealize.ShloMosaic

/-! ## The sorted positions -/

/-- Sorting the positions by the values of a permutation lists the inverse permutation's values. -/
theorem sortedFrom_route (σ : Route) : sortedFrom (fun k k' : Fin 4 => decide (σ k < σ k')) = σ.symm := by
  have hpos : sortPositions 4 (fun k k' : Fin 4 => decide (σ k < σ k')) = List.ofFn σ.symm := sortPositions_of_perm σ.symm
  funext k
  unfold sortedFrom
  rw [List.get_of_eq hpos]
  exact List.get_ofFn _ _

/-- The sort's comparator, of the words of two devices, says which device comes first. -/
theorem comparator_words (a b : Fin 4) (p q : BitVec 32) :
    (comparator_i32_i32_d0 (wordOf a, p) (wordOf b, q) == 1#1) = decide (a < b) := by
  show (IntOp.cmpi .slt (wordOf a) (wordOf b) == 1#1) = decide (a < b)
  revert a b
  decide

/-- The positions sorted along with a table that holds `σ`: word `c` is the number of device `σ.symm c`. -/
theorem argsort_route {σ : Route} {t : IVec S4 32} (ht : HoldsRoute σ t) :
    (Host.sort2 S4 0 comparator_i32_i32_d0 t (iotaInDim S4 32 0)).2 = fun i => wordOf (σ.symm (i 0)) := by
  funext j
  have hbefore : (fun k k' : Fin 4 => comparator_i32_i32_d0
        (t (j.along (0 : Fin 1) k), iotaInDim S4 32 0 (j.along (0 : Fin 1) k))
        (t (j.along (0 : Fin 1) k'), iotaInDim S4 32 0 (j.along (0 : Fin 1) k')) == 1#1)
      = fun k k' => decide (σ k < σ k') := by
    funext k k'
    simp only [Shape.Idx.along_rank1]
    rw [ht, ht]
    exact comparator_words _ _ _ _
  have hpos : sortedFrom (fun k k' : Fin 4 => comparator_i32_i32_d0
        (t (j.along (0 : Fin 1) k), iotaInDim S4 32 0 (j.along (0 : Fin 1) k))
        (t (j.along (0 : Fin 1) k'), iotaInDim S4 32 0 (j.along (0 : Fin 1) k')) == 1#1) (j 0) = σ.symm (j 0) :=
    (congrFun (congrArg sortedFrom hbefore) (j 0)).trans (congrFun (sortedFrom_route σ) (j 0))
  exact (congrArg (fun k : Fin 4 => iotaInDim S4 32 0 (j.along (0 : Fin 1) k)) hpos).trans
    (congrArg (iotaInDim S4 32 0) (Shape.Idx.along_rank1 j (σ.symm (j 0))))

/-- A device's word is not negative, so the wrap of the negative words leaves it as it is. -/
theorem wrap_word (d : Fin 4) :
    Scalar.select (IntOp.cmpi .slt (wordOf d) 0#32) (IntOp.addi (wordOf d) 4#32) (wordOf d) = wordOf d := by
  revert d
  decide

/-- A device's word, read signed and clamped to the rows, is the device's number. -/
theorem clamp_word (d : Fin 4) : min (wordOf d).toInt.toNat 3 = d.val := by
  revert d
  decide

/-! ## The gathered rows -/

/-- The gather's dimension numbers: whole rows of the first axis, one per start index. -/
abbrev rowDims : GatherDims S4x1024x1024 S4x1 S4x1024x1024 := gather_S4x1024x1024_S4x1_S4x1024x1024_12_0_n_n_0_1_110241024

/-- The index of the start index of row `r`. -/
abbrev startIdx (r : Fin 4) : S4x1.Idx := fun b => match b with | ⟨0, _⟩ => r | ⟨1, _⟩ => (0 : Fin 1)

/-- On the row axis the gather reads at the start index of the result's row, clamped to the rows. -/
theorem operandIdx_row (y : S4x1024x1024.Idx) (idx : IVec S4x1 32) :
    (rowDims.operandIdx y idx 0).val = min (idx (startIdx (y 0))).toInt.toNat 3 := by
  show rowDims.start y idx 0 + rowDims.batchCoord y 0 + rowDims.offCoord y 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 3) ∈ rowDims.startIndexMap from List.mem_singleton.mpr rfl)]
  have hstart : rowDims.siIdx y ⟨List.idxOf (0 : Fin 3) rowDims.startIndexMap,
      List.idxOf_lt_length_iff.2 (List.mem_singleton.mpr rfl)⟩ = startIdx (y 0) := by
    funext b
    match b with
    | ⟨0, _⟩ => rfl
    | ⟨1, _⟩ => rfl
  rw [hstart]
  rfl

/-- On the two axes inside a row it reads where the result is. -/
theorem operandIdx_inside (y : S4x1024x1024.Idx) (idx : IVec S4x1 32) (a : Fin 3) (ha : a ≠ 0) :
    (rowDims.operandIdx y idx a).val = (y a).val := by
  show rowDims.start y idx a + rowDims.batchCoord y a + rowDims.offCoord y a = _
  have hmap : a ∉ rowDims.startIndexMap := fun h => ha (List.mem_singleton.mp h)
  have hkept : a ∈ rowDims.sKept := (GatherDims.mem_sKept _ _).mpr ⟨fun h => ha (List.mem_singleton.mp h), List.not_mem_nil⟩
  rw [GatherDims.batchCoord_eq_zero _ _ _ List.not_mem_nil]
  unfold GatherDims.start GatherDims.offCoord
  rw [dif_neg hmap, dif_pos hkept, Nat.add_zero, Nat.zero_add]
  match a, ha with
  | ⟨0, _⟩, h => exact absurd rfl h
  | ⟨1, _⟩, _ => rfl
  | ⟨2, _⟩, _ => rfl

/-! ## The reference's result -/

section Result
variable {F : FTy → Type} [FloatOps F]

/-- The reference's result, as its operations compute it from the whole array and the table. -/
def result (x : FVec F S4x1024x1024 .f32) (t : IVec S4 32) : FVec F S4x1024x1024 .f32 :=
  Host.gather rowDims x (broadcastInDim S4x1 ![0] bcast_S4_S4x1_0
    (select (cmpi .slt (Host.sort2 S4 0 comparator_i32_i32_d0 t (iotaInDim S4 32 0)).2
        (broadcastInDim S4 ![] bcast_S_S4 (constantI S_ 32 0#32)))
      (addi (Host.sort2 S4 0 comparator_i32_i32_d0 t (iotaInDim S4 32 0)).2
        (broadcastInDim S4 ![] bcast_S_S4 (constantI S_ 32 4#32)))
      (Host.sort2 S4 0 comparator_i32_i32_d0 t (iotaInDim S4 32 0)).2))

omit [FloatOps F] in
/-- The start index of row `r`, of a table that holds `σ`: the number of device `σ.symm r`. -/
theorem start_word {σ : Route} {t : IVec S4 32} (ht : HoldsRoute σ t) (r : Fin 4) :
    broadcastInDim S4x1 ![0] bcast_S4_S4x1_0
      (select (cmpi .slt (Host.sort2 S4 0 comparator_i32_i32_d0 t (iotaInDim S4 32 0)).2
          (broadcastInDim S4 ![] bcast_S_S4 (constantI S_ 32 0#32)))
        (addi (Host.sort2 S4 0 comparator_i32_i32_d0 t (iotaInDim S4 32 0)).2
          (broadcastInDim S4 ![] bcast_S_S4 (constantI S_ 32 4#32)))
        (Host.sort2 S4 0 comparator_i32_i32_d0 t (iotaInDim S4 32 0)).2) (startIdx r) = wordOf (σ.symm r) := by
  rw [argsort_route ht]
  refine (broadcastInDim_apply ![0] bcast_S4_S4x1_0 _ (startIdx r) (Shape.Idx.ofFin r) (fun a => ?_)).trans ?_
  · obtain rfl : a = 0 := Subsingleton.elim _ _
    rfl
  · exact wrap_word (σ.symm r)

/-- The whole array and one device's block tile: four blocks along the first axis. -/
theorem tiles : Layout.Tiles ⟨3, ![1, 1024, 1024]⟩ S4x1024x1024 0 4 := by decide

/-- Block `c` of the reference's result is block `σ.symm c` of the whole array. -/
theorem block_result {σ : Route} {t : IVec S4 32} (ht : HoldsRoute σ t) (x : FVec F S4x1024x1024 .f32) (c : Fin 4) :
    Layout.block ⟨3, ![1, 1024, 1024]⟩ S4x1024x1024 0 4 c (result x t) tiles
      = Layout.block ⟨3, ![1, 1024, 1024]⟩ S4x1024x1024 0 4 (σ.symm c) x tiles := by
  funext i
  refine congrArg x (funext fun a => Fin.ext ?_)
  have hi : (i 0).val = 0 := Nat.lt_one_iff.mp (i 0).isLt
  have hrow : (tiles.idx c i) 0 = c := Fin.ext (by
    show c.val * 1 + (i 0).val = c.val
    omega)
  match a with
  | ⟨0, _⟩ =>
    refine (operandIdx_row _ _).trans ?_
    rw [hrow, start_word ht, clamp_word]
    show _ = (σ.symm c).val * 1 + (i 0).val
    omega
  | ⟨1, _⟩ => exact operandIdx_inside _ _ 1 (by decide)
  | ⟨2, _⟩ => exact operandIdx_inside _ _ 2 (by decide)

end Result

end Cert.Permute

end
-- ==== Proof.Claims.lean ====
/-
# The claims, for any table that names the devices

Each of a certificate's preconditions says that a table of four literal words is the routing table of every device. Here
the claims are proved once, for any literal table whose words name the four devices in some order.
-/
module

public import proofs.«01_k».proof.Defs
public import proofs.«01_k».proof.Proof.Launch
public import proofs.«01_k».proof.Proof.Reference
public import proofs.«01_k».proof.Proof.Gen.Kernel
public import Idealize.ShloMosaic.Lib.WordCmp

@[expose] public section

noncomputable section

namespace Cert.Permute

open Idealize.ShloMosaic Idealize.ShloMosaic.TcCoe Idealize.SL.Sem

/-! ## A literal table of the devices, in some order -/

/-- The four words are device numbers, and no two are the same. -/
def Lists (lit : Fin 4 → BitVec 32) : Prop := (∀ d, (lit d).toNat < 4) ∧ ∀ a b, lit a = lit b → a = b

instance (lit : Fin 4 → BitVec 32) : Decidable (Lists lit) := by unfold Lists; infer_instance

/-- Such words are those of a permutation of the devices. -/
theorem Lists.route {lit : Fin 4 → BitVec 32} (h : Lists lit) : ∃ σ : Route, ∀ d : Fin 4, lit d = wordOf (σ d) := by
  have hinj : Function.Injective (fun d : Fin 4 => (⟨(lit d).toNat, h.1 d⟩ : Fin 4)) :=
    fun a b hab => h.2 a b (BitVec.eq_of_toNat_eq (Fin.mk.inj hab))
  refine ⟨Equiv.ofBijective _ (Finite.injective_iff_bijective.mp hinj), fun d => ?_⟩
  exact BitVec.eq_of_toNat_eq (by
    show (lit d).toNat = (BitVec.ofNat 32 (lit d).toNat).toNat
    rw [BitVec.toNat_ofNat, Nat.mod_eq_of_lt (lit d).isLt])

/-- The table `t` is found equal, word by word, to the literal table. -/
abbrev Matches (lit : Fin 4 → BitVec 32) (t : IVec Cert.KernelIdeal.S4 32) : Prop :=
  cmpi .eq t (fun i => lit (Cert.KernelIdeal.S4.rowMajor i)) = fun _ => 1#1

/-- A table that matches the words of a permutation holds it. -/
theorem Matches.holds {lit : Fin 4 → BitVec 32} {t : IVec Cert.KernelIdeal.S4 32} (h : Matches lit t) {σ : Route}
    (hσ : ∀ d : Fin 4, lit d = wordOf (σ d)) : HoldsRoute σ t := by
  intro i
  have hi : IntOp.cmpi .eq (t i) (lit (Cert.KernelIdeal.S4.rowMajor i)) = 1#1 := congrFun h i
  have hword : t i = lit (Cert.KernelIdeal.S4.rowMajor i) := by
    by_contra hne
    rw [WordCmp.cmpi_eq_eq, decide_eq_false hne] at hi
    exact absurd hi (by decide)
  have hplace : Cert.KernelIdeal.S4.rowMajor i = i 0 := Fin.ext (Shape.rowMajor_val_one i)
  rw [hword, hplace]
  exact hσ (i 0)

/-! ## The two programs have one text

The kernel read at the words and the ideal kernel are printed from one module, without a rewrite. -/

section SameText
variable {F : FTy → Type} [FloatOps F]

/-- The two body tables are one. -/
theorem bodies_eq : Cert.Kernel.defs₀ (F := F) = Cert.KernelIdeal.defs₀ (F := F) := by
  refine congrArg Defs.onTc (funext fun ℓ => funext fun a => ?_)
  match ℓ, a with
  | 0, (t, s) => rfl

/-- So are the tables with the region and its pipeline. -/
theorem tables_eq : Cert.Kernel.defs (F := F) = Cert.KernelIdeal.defs (F := F) :=
  congrArg (Pipeline.defs (Cert.KernelIdeal.pcfgs (F := F))) bodies_eq

end SameText

/-! ## The kernel's frames -/

/-- The kernel terminates without fault, its arguments unchanged and every counter at zero. -/
theorem frame_kernel {lit : Fin 4 → BitVec 32} (hlit : Lists lit)
    (m : (ℓ : Loc Cert.Kernel.nD Cert.Kernel.τ Cert.Kernel.sig) → Buf (Elt Bits) ℓ) (g : Dev Cert.Kernel.nD → PrngReg)
    (hpre : ∀ c : Dev Cert.Kernel.nD, Matches lit (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  obtain ⟨σ, hσ⟩ := hlit.route
  rw [tables_eq]
  exact (θ_run Cert.KernelIdeal.defs _ _).mono (fun _ h => ⟨fun c => ⟨(h.1 c).2.1, (h.1 c).2.2⟩, h.2⟩)
    (run_main (F := Bits) σ m g fun c => (hpre c).holds hσ)

/-- So does the ideal kernel. -/
theorem frame_kernelIdeal {lit : Fin 4 → BitVec 32} (hlit : Lists lit)
    (m : (ℓ : Loc Cert.KernelIdeal.nD Cert.KernelIdeal.τ Cert.KernelIdeal.sig) → Buf (Elt Ideal) ℓ) (g : Dev Cert.KernelIdeal.nD → PrngReg)
    (hpre : ∀ c : Dev Cert.KernelIdeal.nD, Matches lit (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
  obtain ⟨σ, hσ⟩ := hlit.route
  exact (θ_run Cert.KernelIdeal.defs _ _).mono (fun _ h => ⟨fun c => ⟨(h.1 c).2.1, (h.1 c).2.2⟩, h.2⟩)
    (run_main σ m g fun c => (hpre c).holds hσ)

/-! ## The reference's frame, and the equation -/

/-- The reference terminates without fault, its arguments unchanged and every counter at zero (it has none). -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- Kernel and reference compute the same function: from blocks of one whole array and a table that every device holds,
    device `c` ends with block `c` of the reference's result. -/
theorem same_value {lit : Fin 4 → BitVec 32} (hlit : Lists lit)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : ∀ c : Dev Cert.KernelIdeal.nD, Matches lit (m ((c.tc : Thread Cert.KernelIdeal.nD Cert.KernelIdeal.τ).loc Cert.KernelIdeal.main_arg1)))
    (hargs : ∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hσ⟩ := hlit.route
  have ht : HoldsRoute σ (m' (((0 : Dev Cert.ReferenceIdeal.nD).tc : Thread Cert.ReferenceIdeal.nD Cert.ReferenceIdeal.τ).loc Cert.ReferenceIdeal.main_arg1)) := by
    have h0 := (hpre 0).holds hσ
    rwa [(hargs 0).2] at h0
  refine ⟨result (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c).2⟩) (run_main σ m g fun c => (hpre c).holds hσ)
    exact (h.1 c).1.trans ((hargs (σ.symm c)).1.trans (block_result (F := Ideal) ht _ c).symm)
  · exact (θ_run Cert.ReferenceIdeal.defs _ _).mono (fun _ h => h 0) (Cert.ReferenceIdeal.Value.run m' g')

end Cert.Permute

end
-- ==== Proof.lean ====
/-
# The certificate

Under each of the 24 preconditions — the table of every device is one given permutation of the devices — the kernel and
the ideal kernel run to the end and leave arguments and counters as the claims say, and the ideal kernel's blocks are
those of the reference's result. `Proof/Claims.lean` proves each claim once, for any literal table that lists the devices;
what is left for a precondition is that its four words do.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims

@[expose] public section

noncomputable section

namespace Cert.Proof

open Idealize.ShloMosaic Idealize.SL.Sem Cert.Permute

/-- Everything that is claimed: the programs' facts, the frames, the idealisation and the equation. The predicates state no
    facts. -/
theorem claim : Cert.Claim := by
  refine ⟨Cert.ReferenceIdeal.Gen.facts, Cert.Kernel.Gen.facts, Cert.KernelIdeal.Gen.facts, ?_⟩
  repeat refine Exists.intro {} ?_
  repeat' apply And.intro
  all_goals first
    | exact trivial
    | exact fun m g h => frame_kernel (by decide) m g h
    | exact fun m g h => frame_kernelIdeal (by decide) m g h
    | exact fun m g m' g' h hargs => same_value (by decide) m g m' g' h hargs
    | exact fun m g _ => frame_reference m g

end Cert.Proof

end
